-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_own_product_reaches_floor_KernelIdeal [hPre_own_product_reaches_floor_KernelIdeal : Cert.Pre_own_product_reaches_floor_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_own_product_reaches_floor_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_product_reaches_floor_ReferenceIdeal [hPre_own_product_reaches_floor_ReferenceIdeal : Cert.Pre_own_product_reaches_floor_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_product_reaches_floor_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_own_product_reaches_floor_KernelIdeal [hKernelIdeal : Cert.KernelIdeal.Facts] [hPre_own_product_reaches_floor_KernelIdeal : Cert.Pre_own_product_reaches_floor_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_own_product_reaches_floor_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_own_product_reaches_floor_ReferenceIdeal [hReferenceIdeal : Cert.ReferenceIdeal.Facts] [hPre_own_product_reaches_floor_ReferenceIdeal : Cert.Pre_own_product_reaches_floor_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_product_reaches_floor_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_own_product_reaches_floor_KernelIdeal [hKernelIdeal : Cert.KernelIdeal.Facts] [hReferenceIdeal : Cert.ReferenceIdeal.Facts] [hPre_own_product_reaches_floor_KernelIdeal : Cert.Pre_own_product_reaches_floor_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_own_product_reaches_floor_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_own_product_reaches_floor_KernelIdeal : Cert.Pre_own_product_reaches_floor_KernelIdeal.Facts) (hPre_own_product_reaches_floor_ReferenceIdeal : Cert.Pre_own_product_reaches_floor_ReferenceIdeal.Facts),
    quiescent_Kernel (hKernel := hKernel)
    ∧ quiescent_KernelIdeal (hKernelIdeal := hKernelIdeal)
    ∧ quiescent_KernelIdeal_pre_own_product_reaches_floor_KernelIdeal (hKernelIdeal := hKernelIdeal) (hPre_own_product_reaches_floor_KernelIdeal := hPre_own_product_reaches_floor_KernelIdeal)
    ∧ quiescent_ReferenceIdeal (hReferenceIdeal := hReferenceIdeal)
    ∧ quiescent_ReferenceIdeal_pre_own_product_reaches_floor_ReferenceIdeal (hReferenceIdeal := hReferenceIdeal) (hPre_own_product_reaches_floor_ReferenceIdeal := hPre_own_product_reaches_floor_ReferenceIdeal)
    ∧ preserves_Kernel_KernelIdeal
    ∧ algebraic_KernelIdeal_ReferenceIdeal_pre_own_product_reaches_floor_KernelIdeal (hKernelIdeal := hKernelIdeal) (hReferenceIdeal := hReferenceIdeal) (hPre_own_product_reaches_floor_KernelIdeal := hPre_own_product_reaches_floor_KernelIdeal)
-- ==== Pre_own_product_reaches_floor_KernelIdeal.lean ====
abbrev S512x4096 : Shape := ⟨2, ![512, 4096]⟩
abbrev S4096x1024 : Shape := ⟨2, ![4096, 1024]⟩
abbrev S512x1024 : Shape := ⟨2, ![512, 1024]⟩
abbrev S_ : Shape := ⟨0, ![]⟩

class Facts : Prop where
  reducesTo_S512x1024_S_d0_1 : S512x1024.ReducesTo [0, 1] S_
  h_S_ : 0 < S_.numel
  dot_S512x4096_S4096x1024_S512x1024_1_0_0_1_n_n_wf : DotDims.WF S512x4096 S4096x1024 S512x1024 [1] [0] [0] [1] [] []

variable [Facts]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def fn {F : FTy → Type} [FloatOps F] (main_arg0 : FVec F S512x4096 .f32) (main_arg1 : FVec F S4096x1024 .f32) : IVec S_ 1 :=
  let main_v0 : FVec F S512x1024 .f32 := (fun l r => Host.dotGeneral dot_S512x4096_S4096x1024_S512x1024_1_0_0_1_n_n none l r) main_arg0 main_arg1
  let main_cst : FVec F S_ .f32 := constant S_ .f32 0xFF800000#32
  let main_v1 : FVec F S_ .f32 := (fun x v => Host.reduce FloatOps.maximumf x v reducesTo_S512x1024_S_d0_1 h_S_) main_v0 main_cst
  let main_cst_0 : FVec F S_ .f32 := constant S_ .f32 0x0DA24260#32
  let main_v2 : IVec S_ 1 := cmpf .oge main_v1 main_cst_0
  main_v2
-- ==== Pre_own_product_reaches_floor_ReferenceIdeal.lean ====
abbrev S4096x4096 : Shape := ⟨2, ![4096, 4096]⟩
abbrev S4096x8192 : Shape := ⟨2, ![4096, 8192]⟩
abbrev S_ : Shape := ⟨0, ![]⟩

class Facts : Prop where
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S_ 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0xFF800000#32
  let main_v1 : FVec F S_ .f32 := (fun x v => Host.reduce FloatOps.maximumf x v reducesTo_S4096x8192_S_d0_1 h_S_) main_v0 main_cst
  let main_cst_0 : FVec F S_ .f32 := constant S_ .f32 0x0DA24260#32
  let main_v2 : IVec S_ 1 := cmpf .oge main_v1 main_cst_0
  main_v2
-- ==== Kernel.lean ====
abbrev S512x4096 : Shape := ⟨2, ![512, 4096]⟩
abbrev S4096x1024 : Shape := ⟨2, ![4096, 1024]⟩
abbrev S2x256x4096 : Shape := ⟨3, ![2, 256, 4096]⟩
abbrev S8x128 : Shape := ⟨2, ![8, 128]⟩
abbrev S7 : Shape := ⟨1, ![7]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S512x1024 : Shape := ⟨2, ![512, 1024]⟩
abbrev S1x512x1024 : Shape := ⟨3, ![1, 512, 1024]⟩
abbrev S1x1x1 : Shape := ⟨3, ![1, 1, 1]⟩
abbrev S256x1024 : Shape := ⟨2, ![256, 1024]⟩
abbrev S1x256x1024 : Shape := ⟨3, ![1, 256, 1024]⟩
abbrev S1x128 : Shape := ⟨2, ![1, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S2x256x4096, .bf16⟩
  | .local _ .vmem, ⟨4, _⟩ => ⟨S2x256x4096, .bf16⟩
  | .local _ .vmem, ⟨5, _⟩ => ⟨S512x4096, .bf16⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 3 45 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_16 : BitVec 32 := 1#32
  let v19 : BitVec 32 := Scalar.muli v7 c1_i32_16
  let v20 : BitVec 32 := Scalar.addi c0_i32_17 v19
  v20.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_25 : BitVec 32 := 1#32
  let v28 : BitVec 32 := Scalar.muli v5 c1_i32_25
  let v29 : BitVec 32 := Scalar.addi c0_i32_26 v28
  v29.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v39 : BitVec 32 := Scalar.muli v2 c512_i32
  let v45 : Index := Scalar.indexCast v39
  let c0_35 : Index := 0#32
  ![v45.toNat, 0]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_76 : BitVec 32 := 1#32
  let v76 : BitVec 32 := Scalar.muli v7 c1_i32_76
  let v77 : BitVec 32 := Scalar.addi c0_i32_77 v76
  v77.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_86 : BitVec 32 := 1#32
  let v86 : BitVec 32 := Scalar.muli v5 c1_i32_86
  let v87 : BitVec 32 := Scalar.addi c0_i32_87 v86
  v87.toNat
def k0_off2 (d0 : Dev nD) (c1_i32_93 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_92 : BitVec 32 := 8#32
  let v96 : BitVec 32 := Scalar.addi v2 c8_i32_92
  let v97 : BitVec 32 := Scalar.subi v96 c1_i32_93
  let c8_i32_94 : BitVec 32 := 8#32
  let v98 : BitVec 32 := Scalar.remsi v97 c8_i32_94
  let c512_i32_99 : BitVec 32 := 512#32
  let v103 : BitVec 32 := Scalar.muli v98 c512_i32_99
  let v109 : Index := Scalar.indexCast v103
  let c0_104 : Index := 0#32
  ![v109.toNat, 0]
def k0_off3 (d0 : Dev nD) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.addi v2 c1_i32_95
  let c8_i32_96 : BitVec 32 := 8#32
  let v100 : BitVec 32 := Scalar.remsi v99 c8_i32_96
  let c512_i32_109 : BitVec 32 := 512#32
  let v118 : BitVec 32 := Scalar.muli v100 c512_i32_109
  let c256_i32_110 : BitVec 32 := 256#32
  let v119 : BitVec 32 := Scalar.addi v118 c256_i32_110
  let v125 : Index := Scalar.indexCast v119
  let c0_115 : Index := 0#32
  ![v125.toNat, 0]
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_156 : BitVec 32 := 1#32
  let v160 : BitVec 32 := Scalar.muli v5 c1_i32_156
  let v161 : BitVec 32 := Scalar.addi c0_i32_157 v160
  v161.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_159 : BitVec 32 := 1#32
  let v162 : BitVec 32 := Scalar.muli v7 c1_i32_159
  let v163 : BitVec 32 := Scalar.addi c0_i32_160 v162
  v163.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_169 : BitVec 32 := 1#32
  let v164 : BitVec 32 := Scalar.muli v7 c1_i32_169
  let v165 : BitVec 32 := Scalar.addi c0_i32_170 v164
  v165.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_179 : BitVec 32 := 1#32
  let v174 : BitVec 32 := Scalar.muli v5 c1_i32_179
  let v175 : BitVec 32 := Scalar.addi c0_i32_180 v174
  v175.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_250 : BitVec 32 := 1#32
  let v248 : BitVec 32 := Scalar.muli v5 c1_i32_250
  let v249 : BitVec 32 := Scalar.addi c0_i32_251 v248
  v249.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_253 : BitVec 32 := 1#32
  let v250 : BitVec 32 := Scalar.muli v7 c1_i32_253
  let v251 : BitVec 32 := Scalar.addi c0_i32_254 v250
  v251.toNat
def k0_dev13 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_262 : BitVec 32 := 1#32
  let v252 : BitVec 32 := Scalar.muli v7 c1_i32_262
  let v253 : BitVec 32 := Scalar.addi c0_i32_263 v252
  v253.toNat
def k0_dev14 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_272 : BitVec 32 := 1#32
  let v262 : BitVec 32 := Scalar.muli v5 c1_i32_272
  let v263 : BitVec 32 := Scalar.addi c0_i32_273 v262
  v263.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_343 : BitVec 32 := 1#32
  let v336 : BitVec 32 := Scalar.muli v5 c1_i32_343
  let v337 : BitVec 32 := Scalar.addi c0_i32_344 v336
  v337.toNat
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_346 : BitVec 32 := 1#32
  let v338 : BitVec 32 := Scalar.muli v7 c1_i32_346
  let v339 : BitVec 32 := Scalar.addi c0_i32_347 v338
  v339.toNat
def k0_dev17 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_355 : BitVec 32 := 1#32
  let v340 : BitVec 32 := Scalar.muli v7 c1_i32_355
  let v341 : BitVec 32 := Scalar.addi c0_i32_356 v340
  v341.toNat
def k0_dev18 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_365 : BitVec 32 := 1#32
  let v350 : BitVec 32 := Scalar.muli v5 c1_i32_365
  let v351 : BitVec 32 := Scalar.addi c0_i32_366 v350
  v351.toNat
def k0_dev19 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_436 : BitVec 32 := 1#32
  let v424 : BitVec 32 := Scalar.muli v5 c1_i32_436
  let v425 : BitVec 32 := Scalar.addi c0_i32_437 v424
  v425.toNat
def k0_dev20 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_439 : BitVec 32 := 1#32
  let v426 : BitVec 32 := Scalar.muli v7 c1_i32_439
  let v427 : BitVec 32 := Scalar.addi c0_i32_440 v426
  v427.toNat
def k0_dev21 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_448 : BitVec 32 := 1#32
  let v428 : BitVec 32 := Scalar.muli v7 c1_i32_448
  let v429 : BitVec 32 := Scalar.addi c0_i32_449 v428
  v429.toNat
def k0_dev22 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_458 : BitVec 32 := 1#32
  let v438 : BitVec 32 := Scalar.muli v5 c1_i32_458
  let v439 : BitVec 32 := Scalar.addi c0_i32_459 v438
  v439.toNat
def k0_dev23 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_529 : BitVec 32 := 1#32
  let v512 : BitVec 32 := Scalar.muli v5 c1_i32_529
  let v513 : BitVec 32 := Scalar.addi c0_i32_530 v512
  v513.toNat
def k0_dev24 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_532 : BitVec 32 := 1#32
  let v514 : BitVec 32 := Scalar.muli v7 c1_i32_532
  let v515 : BitVec 32 := Scalar.addi c0_i32_533 v514
  v515.toNat
def k0_dev25 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_541 : BitVec 32 := 1#32
  let v516 : BitVec 32 := Scalar.muli v7 c1_i32_541
  let v517 : BitVec 32 := Scalar.addi c0_i32_542 v516
  v517.toNat
def k0_dev26 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_551 : BitVec 32 := 1#32
  let v526 : BitVec 32 := Scalar.muli v5 c1_i32_551
  let v527 : BitVec 32 := Scalar.addi c0_i32_552 v526
  v527.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_621 : BitVec 32 := 1#32
  let v600 : BitVec 32 := Scalar.addi v2 c1_i32_621
  let c8_i32_622 : BitVec 32 := 8#32
  let v601 : BitVec 32 := Scalar.remsi v600 c8_i32_622
  let c512_i32_629 : BitVec 32 := 512#32
  let v607 : BitVec 32 := Scalar.muli v601 c512_i32_629
  let v613 : Index := Scalar.indexCast v607
  let c0_634 : Index := 0#32
  ![v613.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_623 : BitVec 32 := 8#32
  let v602 : BitVec 32 := Scalar.addi v2 c8_i32_623
  let c1_i32_624 : BitVec 32 := 1#32
  let v603 : BitVec 32 := Scalar.subi v602 c1_i32_624
  let c8_i32_625 : BitVec 32 := 8#32
  let v604 : BitVec 32 := Scalar.remsi v603 c8_i32_625
  let c512_i32_639 : BitVec 32 := 512#32
  let v622 : BitVec 32 := Scalar.muli v604 c512_i32_639
  let c256_i32_640 : BitVec 32 := 256#32
  let v623 : BitVec 32 := Scalar.addi v622 c256_i32_640
  let v629 : Index := Scalar.indexCast v623
  let c0_645 : Index := 0#32
  ![v629.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v637 : Index := Scalar.indexCast v2
  let c0_647 : Index := 0#32
  ![v637.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_654 : BitVec 32 := 0#32
  ![v2.toNat, 0]
def k0_dev27 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_648 : BitVec 32 := 1#32
  let v641 : BitVec 32 := Scalar.addi v2 c1_i32_648
  let c8_i32_649 : BitVec 32 := 8#32
  let v642 : BitVec 32 := Scalar.remsi v641 c8_i32_649
  let c1_i32_652 : BitVec 32 := 1#32
  let v643 : BitVec 32 := Scalar.muli v642 c1_i32_652
  let v644 : BitVec 32 := Scalar.addi c0_i32_653 v643
  v644.toNat
def k0_dev28 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_656 : BitVec 32 := 2#32
  let v651 : BitVec 32 := Scalar.addi v2 c2_i32_656
  let c8_i32_657 : BitVec 32 := 8#32
  let v652 : BitVec 32 := Scalar.remsi v651 c8_i32_657
  let c1_i32_660 : BitVec 32 := 1#32
  let v653 : BitVec 32 := Scalar.muli v652 c1_i32_660
  let v654 : BitVec 32 := Scalar.addi c0_i32_661 v653
  v654.toNat
def k0_dev29 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_664 : BitVec 32 := 3#32
  let v661 : BitVec 32 := Scalar.addi v2 c3_i32_664
  let c8_i32_665 : BitVec 32 := 8#32
  let v662 : BitVec 32 := Scalar.remsi v661 c8_i32_665
  let c1_i32_668 : BitVec 32 := 1#32
  let v663 : BitVec 32 := Scalar.muli v662 c1_i32_668
  let v664 : BitVec 32 := Scalar.addi c0_i32_669 v663
  v664.toNat
def k0_dev30 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_672 : BitVec 32 := 4#32
  let v671 : BitVec 32 := Scalar.addi v2 c4_i32_672
  let c8_i32_673 : BitVec 32 := 8#32
  let v672 : BitVec 32 := Scalar.remsi v671 c8_i32_673
  let c1_i32_676 : BitVec 32 := 1#32
  let v673 : BitVec 32 := Scalar.muli v672 c1_i32_676
  let v674 : BitVec 32 := Scalar.addi c0_i32_677 v673
  v674.toNat
def k0_dev31 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_680 : BitVec 32 := 5#32
  let v681 : BitVec 32 := Scalar.addi v2 c5_i32_680
  let c8_i32_681 : BitVec 32 := 8#32
  let v682 : BitVec 32 := Scalar.remsi v681 c8_i32_681
  let c1_i32_684 : BitVec 32 := 1#32
  let v683 : BitVec 32 := Scalar.muli v682 c1_i32_684
  let v684 : BitVec 32 := Scalar.addi c0_i32_685 v683
  v684.toNat
def k0_dev32 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_688 : BitVec 32 := 6#32
  let v691 : BitVec 32 := Scalar.addi v2 c6_i32_688
  let c8_i32_689 : BitVec 32 := 8#32
  let v692 : BitVec 32 := Scalar.remsi v691 c8_i32_689
  let c1_i32_692 : BitVec 32 := 1#32
  let v693 : BitVec 32 := Scalar.muli v692 c1_i32_692
  let v694 : BitVec 32 := Scalar.addi c0_i32_693 v693
  v694.toNat
def k0_dev33 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v701 : BitVec 32 := Scalar.addi v2 c7_i32
  let c8_i32_696 : BitVec 32 := 8#32
  let v702 : BitVec 32 := Scalar.remsi v701 c8_i32_696
  let c1_i32_699 : BitVec 32 := 1#32
  let v703 : BitVec 32 := Scalar.muli v702 c1_i32_699
  let v704 : BitVec 32 := Scalar.addi c0_i32_700 v703
  v704.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Cells.lean ====
/-
The ring of eight devices: neighbours, buffers, semaphore cells.

Each device runs two ring exchanges at once. In the direction `false` ("right") a device passes a half block of the
left operand to the device after it; in the direction `true` ("left") the other half block to the device before it. Every
hop has a send cell and a receive cell of its own per direction; a regular "credit" cell per direction says that the
receiver has emptied the landing slot the next hop reuses. A last exchange passes one row of maxima from every device to
every other. The runtime's barrier cell stands at the entry.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- The device `k` places after `c`. -/
def sh (k : ℕ) (c : Dev nD) : Dev nD := ⟨(c.val + k) % 8, Nat.mod_lt _ (by decide)⟩

theorem sh_val (k : ℕ) (c : Dev nD) : (sh k c).val = (c.val + k) % 8 := rfl
theorem dev_lt (c : Dev nD) : c.val < 8 := c.isLt
theorem sh_sh (a b : ℕ) (c : Dev nD) : sh a (sh b c) = sh (b + a) c :=
  Fin.ext (by rw [sh_val, sh_val, sh_val]; omega)
theorem sh_mod (a : ℕ) (c : Dev nD) : sh (a % 8) c = sh a c := Fin.ext (by rw [sh_val, sh_val]; omega)
theorem sh_congr {a b : ℕ} (h : a % 8 = b % 8) (c : Dev nD) : sh a c = sh b c := by rw [← sh_mod a, h, sh_mod]
theorem sh_zero (c : Dev nD) : sh 0 c = c := Fin.ext (by rw [sh_val]; have := dev_lt c; omega)
theorem sh_back {a b : ℕ} (h : (b + a) % 8 = 0) (c : Dev nD) : sh a (sh b c) = c := by
  rw [sh_sh, sh_congr (b := 0) h, sh_zero]

/-- The shift by `k`, as a permutation of the devices. -/
def shE (k : ℕ) : Dev nD ≃ Dev nD where
  toFun := sh k
  invFun := sh (8 - k % 8)
  left_inv c := sh_back (by omega) c
  right_inv c := sh_back (by omega) c

/-- How far a direction's receiver and sender stand from a device. -/
def toK (d : Bool) : ℕ := if d then 7 else 1
def frK (d : Bool) : ℕ := if d then 1 else 7
/-- The device that direction `d` sends to, and the one it receives from. -/
abbrev nx (d : Bool) (c : Dev nD) : Dev nD := sh (toK d) c
abbrev pv (d : Bool) (c : Dev nD) : Dev nD := sh (frK d) c
theorem nx_pv (d : Bool) (c : Dev nD) : nx d (pv d c) = c := sh_back (by cases d <;> decide) c
theorem pv_nx (d : Bool) (c : Dev nD) : pv d (nx d c) = c := sh_back (by cases d <;> decide) c

/-- Whose half block device `c` holds in direction `d` after `h` hops. -/
def orig (d : Bool) (h : ℕ) (c : Dev nD) : Dev nD := sh (if d then h else 7 * h) c
theorem orig_zero (d : Bool) (c : Dev nD) : orig d 0 c = c := by cases d <;> exact sh_zero c
theorem orig_nx (d : Bool) (h : ℕ) (c : Dev nD) : orig d (h + 1) (nx d c) = orig d h c := by
  cases d
  · show sh (7 * (h + 1)) (sh 1 c) = sh (7 * h) c; rw [sh_sh]; exact sh_congr (by omega) c
  · show sh (h + 1) (sh 7 c) = sh h c; rw [sh_sh]; exact sh_congr (by omega) c

/-! ## The semaphore cells -/

/-- The DMA semaphores by group `j` (0 and 1: send and receive of the right direction, 2 and 3: of the left one, 4 and 5:
    of the exchange of maxima) and hop or peer `h`. -/
def dq (j h : ℕ) : DmaSem sig := ⟨3 + (7 * j + h) % 42, by show _ < 45; omega⟩
theorem dq_val (j h : ℕ) : (dq j h).val = 3 + (7 * j + h) % 42 := rfl
/-- The credit semaphore of a direction. -/
def crS (d : Bool) : Sem sig := if d then cc0_scratch9.sem else cc0_scratch8.sem
abbrev barS : Sem sig := (SemArray.scalar (sig.barrier 0 rfl) : Sems sig S_).sem

/-- A direction's send and receive groups. -/
def jS (d : Bool) : ℕ := if d then 2 else 0
def jR (d : Bool) : ℕ := if d then 3 else 1

abbrev dcell (j h : ℕ) (c : Dev nD) : GSem nD τ sig := ((c : Thread nD τ), .dma (dq j h))
abbrev ccell (d : Bool) (c : Dev nD) : GSem nD τ sig := ((c : Thread nD τ), .reg (crS d))
abbrev bcell (c : Dev nD) : GSem nD τ sig := ((c : Thread nD τ), .reg barS)

theorem crS_val (d : Bool) : (crS d).val = if d then 1 else 0 := by cases d <;> rfl
theorem barS_val : (barS : Sem sig).val = 2 := rfl
theorem crS_ne_bar (d : Bool) : crS d ≠ barS := by cases d <;> decide

/-! The printed semaphore slices are these. -/

theorem q4_0 : ((cc0_scratch4.slice (Rect.unit (s := S7) ![0] S1.size inb_S7_S1_0)).squeeze S_ squeezes_S1_S_).sem = dq 0 0 := rfl
theorem q5_6 : ((cc0_scratch5.slice (Rect.unit (s := S7) ![6] S1.size inb_S7_S1_6)).squeeze S_ squeezes_S1_S_).sem = dq 1 6 := rfl

/-! ## The buffers -/

abbrev xM : Memref sig .tc .vmem S512x4096 .f32 := Memref.whole cc0_stg0_0
abbrev wM : Memref sig .tc .vmem S4096x1024 .f32 := Memref.whole cc0_stg1_0
abbrev oM : Memref sig .tc .vmem S4096x1024 .f32 := Memref.whole cc0_stg2_0
abbrev bM : Memref sig .tc .vmem S512x4096 .bf16 := Memref.whole cc0_scratch2
abbrev aM : Memref sig .tc .vmem S8x128 .f32 := Memref.whole cc0_scratch3
/-- The landing buffer of a direction, two slots. -/
abbrev cM (d : Bool) : Memref sig .tc .vmem S2x256x4096 .bf16 :=
  match d with
  | false => Memref.whole cc0_scratch0
  | true => Memref.whole cc0_scratch1

theorem inbSlot (s : Fin 2) : ∀ a, (![s.val, 0, 0] : Fin 3 → Nat) a + S1x256x4096.size a ≤ S2x256x4096.size a := by revert s; decide
abbrev rSlot (s : Fin 2) : Rect S2x256x4096 := Rect.unit (s := S2x256x4096) ![s.val, 0, 0] S1x256x4096.size (inbSlot s)
abbrev slotM (d : Bool) (s : Fin 2) : Memref sig .tc .vmem S256x4096 .bf16 :=
  ((cM d).slice (rSlot s) (fun _ => rfl)).squeeze S256x4096 squeezes_S1x256x4096_S256x4096

theorem inbHalf (d : Bool) : ∀ a, (![if d then 256 else 0, 0] : Fin 2 → Nat) a + S256x4096.size a ≤ S512x4096.size a := by revert d; decide
abbrev rHalf (d : Bool) : Rect S512x4096 := Rect.unit (s := S512x4096) ![if d then 256 else 0, 0] S256x4096.size (inbHalf d)
/-- The half of the cast block that direction `d` starts from. -/
abbrev halfM (d : Bool) : Memref sig .tc .vmem S256x4096 .bf16 := bM.slice (rHalf d) (fun _ => rfl)

abbrev rRow (i : Dev nD) : Rect S8x128 := Rect.unit (s := S8x128) (k0_off7 i) S1x128.size (Gen.k0_off7_inb i)
/-- Row `i` of the buffer of maxima. -/
abbrev rowM (i : Dev nD) : Memref sig .tc .vmem S1x128 .f32 := aM.slice (rRow i) (fun _ => rfl)

/-- What a half block's landing credits, and what a row's. -/
def Nb : ℕ := (slotM false 0).view.dmaCredit
def Na : ℕ := (rowM 0).view.dmaCredit
theorem Nb_pos : 0 < Nb := View.dmaCredit_pos _ (by decide)
theorem Na_pos : 0 < Na := View.dmaCredit_pos _ (by decide)
theorem credit_slot (d : Bool) (s : Fin 2) : (slotM d s).view.dmaCredit = Nb := by
  unfold Nb; cases d <;> fin_cases s <;> rfl
theorem credit_half (d : Bool) : (halfM d).view.dmaCredit = Nb := by cases d <;> rfl
theorem credit_row (i : Dev nD) : (rowM i).view.dmaCredit = Na := rfl

end Cert.Ring8

end
-- ==== Proof.Schedule.lean ====
/-
The exchanges' schedule: for every cell the rounds, what each contribution amounts to, and the contents it hands over.
-/
module

public import proofs.«01_k».proof.Proof.Cells

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the ring's (duties `Bool`, level indices `ℕ`) -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s staged operands. -/
def xs (c : Dev nD) : Vec F S512x4096 .f32 :=
  (win0_0.blk (0 : Fin 1)).view.read (Elt F) (m ((c : Thread nD τ).loc main_arg0))
def ws (c : Dev nD) : Vec F S4096x1024 .f32 :=
  (win0_1.blk (0 : Fin 1)).view.read (Elt F) (m ((c : Thread nD τ).loc main_arg1))

/-- The block cast to the narrow format, and the half of it that direction `d` sends round. -/
def xb (c : Dev nD) : Vec F S512x4096 .bf16 := k0_pay2 (xs m c)
def chunk (d : Bool) (c : Dev nD) : Vec F S256x4096 .bf16 := fun j => xb m c ((rHalf d).emb j)

/-- The product of a half block with the device's right operand, cut off below at zero. -/
def blk (X : Vec F S256x4096 .bf16) (w : Vec F S4096x1024 .f32) : FVec F S256x1024 .f32 :=
  maximumf (matmul dot_S256x4096_S4096x1024_S256x1024_1_0_0_1_n_n none X
      (shapeCast S4096x1024 w shapeCasts_S4096x1024_S4096x1024 : FVec F S4096x1024 .f32) (constant S256x1024 .f32 0x00000000#32))
    (broadcast S256x1024 (Scalar.ofBits .f32 0x00000000#32))
/-- The greatest element of a product block. -/
def mx (Y : FVec F S256x1024 .f32) : F .f32 :=
  extractAt ![0, 0, 0] (shapeCast S1x1x1 (multiReduction .maximumf [1, 2] S1
    (shapeCast S1x256x1024 Y shapeCasts_S256x1024_S1x256x1024) 0xFF800000#32 reduces_S1x256x1024_S1 (.inl rfl) rfl) shapeCasts_S1_S1x1x1)
    inpos_S1x1x1_p0_0_0
/-- One hop's step of the running maximum. -/
def mxStep (a : F .f32) (X Y : Vec F S256x4096 .bf16) (w : Vec F S4096x1024 .f32) : F .f32 :=
  Scalar.maximumf (Scalar.maximumf a (mx (blk X w))) (mx (blk Y w))
/-- Device `c`'s running maximum after hop `h`'s two half blocks. -/
def amx (c : Dev nD) : ℕ → F .f32
  | 0 => k0_pay4 (xs m c) (ws m c)
  | h + 1 => mxStep (amx c h) (chunk m false (orig false (h + 1) c)) (chunk m true (orig true (h + 1) c)) (ws m c)
/-- A device's row of maxima. -/
def row (i : Dev nD) : FVec F S1x128 .f32 := broadcast S1x128 (amx m i 7)

/-! ## Ownership of the exchanged pieces -/

def slotC (d : Bool) (s : Fin 2) (q : PosShare TreeShare) (c : Dev nD) (X : Vec F S256x4096 .bf16) : sProp 𝕄 :=
  owns (c : Thread nD τ) (slotM d s) q X
def slotAny (d : Bool) (s : Fin 2) (c : Dev nD) : sProp 𝕄 := iprop(∃ X, slotC (F := F) d s fullShare c X)
def halfC (d : Bool) (c : Dev nD) (X : Vec F S256x4096 .bf16) : sProp 𝕄 := owns (c : Thread nD τ) (halfM d) fullShare X
def rowC (c i : Dev nD) (q : PosShare TreeShare) (X : Vec F S1x128 .f32) : sProp 𝕄 := owns (c : Thread nD τ) (rowM i) q X
def rowAny (c i : Dev nD) : sProp 𝕄 := iprop(∃ X, rowC (F := F) c i fullShare X)

instance slotC_storable (d s q c X) : BI.Storable (upEmb : UEmb _ 𝕄) (slotC (F := F) d s q c X) := by unfold slotC; infer_instance
instance slotAny_storable (d s c) : BI.Storable (upEmb : UEmb _ 𝕄) (slotAny (F := F) d s c) := by unfold slotAny; infer_instance
instance halfC_storable (d c X) : BI.Storable (upEmb : UEmb _ 𝕄) (halfC (F := F) d c X) := by unfold halfC; infer_instance
instance rowC_storable (c i q X) : BI.Storable (upEmb : UEmb _ 𝕄) (rowC (F := F) c i q X) := by unfold rowC; infer_instance
instance rowAny_storable (c i) : BI.Storable (upEmb : UEmb _ 𝕄) (rowAny (F := F) c i) := by unfold rowAny; infer_instance

/-- The rows of device `o`'s buffer that are still on their way round the ring: those of the last `n` of the devices after it. -/
def rowsFrom (o : Dev nD) : ℕ → sProp 𝕄
  | 0 => iprop(emp)
  | n + 1 => iprop(rowAny (F := F) o (sh (7 - n) o) ∗ rowsFrom o n)
instance rowsFrom_storable (o : Dev nD) (n : ℕ) : BI.Storable (upEmb : UEmb _ 𝕄) (rowsFrom (F := F) o n) := by
  induction n with
  | zero => unfold rowsFrom; infer_instance
  | succ n ih => unfold rowsFrom; infer_instance

/-- What remains of a share once `j` pieces were lent, and piece `j`. -/
def restQ : ℕ → PosShare TreeShare
  | 0 => fullShare
  | j + 1 => (restQ j).right
def pieceQ (j : ℕ) : PosShare TreeShare := (restQ j).left

/-! ## The payloads -/

/-- Slot of the landing buffer that hop `h` reads, and the one it fills. -/
abbrev slotOf (h : ℕ) : Fin 2 := ⟨h % 2, Nat.mod_lt _ (by decide)⟩

/-- What a hop's transfer reads: at the first hop the half of the cast block, later the slot the hop before filled, half a share. -/
def srcC (d : Bool) (c : Dev nD) : ℕ → sProp 𝕄
  | 0 => halfC d c (chunk m d c)
  | h + 1 => slotC d (slotOf (h + 1)) fullShare.left c (chunk m d (orig d (h + 1) c))
/-- What a hop's transfer carries along with the half block: that the receiver may next empty the slot for the hop after
    (the sender's credit cell has reached that round), and, in one direction, rows of the buffers of maxima. -/
def carry (d : Bool) (h : ℕ) (c : Dev nD) : sProp 𝕄 :=
  iprop(reached ER (ccell d (pv d c)) (h - 1) ∗ if d then iprop(emp) else rowsFrom (F := F) (orig false (h + 1) c) (7 - h))
/-- What hop `h` lands on device `c`. -/
def landC (d : Bool) (h : ℕ) (c : Dev nD) : sProp 𝕄 :=
  iprop(slotC d (slotOf (h + 1)) fullShare c (chunk m d (orig d (h + 1) c)) ∗ carry d h c)
/-- What the row of peer `j` hops back lands on device `c`. -/
def rowLand (j : ℕ) (c : Dev nD) : sProp 𝕄 := rowC c (sh (7 - j) c) fullShare (row m (sh (7 - j) c))

instance srcC_storable (d c h) : BI.Storable (upEmb : UEmb _ 𝕄) (srcC (F := F) m d c h) := by
  cases h <;> (unfold srcC; infer_instance)
instance carry_storable (d h c) : BI.Storable (upEmb : UEmb _ 𝕄) (carry (F := F) d h c) := by
  unfold carry; cases d
  · simp only [Bool.false_eq_true, if_false]; infer_instance
  · simp only [if_true]; infer_instance
instance landC_storable (d h c) : BI.Storable (upEmb : UEmb _ 𝕄) (landC (F := F) m d h c) := by unfold landC; infer_instance
instance rowLand_storable (j c) : BI.Storable (upEmb : UEmb _ 𝕄) (rowLand (F := F) m j c) := by unfold rowLand; infer_instance

/-- A neighbour's barrier unit hands over both slots of its landing buffer in the direction that leads to it. -/
def barPay (d : Bool) (c : Dev nD) : sProp 𝕄 := iprop(slotAny (F := F) d 0 (nx d c) ∗ slotAny (F := F) d 1 (nx d c))
/-- A credit hands over the slot that the hop after the next fills. -/
def crPay (d : Bool) (r : ℕ) (c : Dev nD) : sProp 𝕄 := slotAny (F := F) d (slotOf (r + 1)) (nx d c)
def dmaPay (j h : ℕ) (c : Dev nD) : sProp 𝕄 :=
  match j with
  | 0 => srcC m false c h
  | 1 => landC m false h c
  | 2 => srcC m true c h
  | 3 => landC m true h c
  | 4 => rowC c c (pieceQ h) (row m c)
  | 5 => rowLand m h c
  | _ => iprop(emp)

instance barPay_storable (d c) : BI.Storable (upEmb : UEmb _ 𝕄) (barPay (F := F) d c) := by unfold barPay; infer_instance
instance crPay_storable (d r c) : BI.Storable (upEmb : UEmb _ 𝕄) (crPay (F := F) d r c) := by unfold crPay; infer_instance
instance dmaPay_storable (j h c) : BI.Storable (upEmb : UEmb _ 𝕄) (dmaPay (F := F) m j h c) := by
  unfold dmaPay; split <;> infer_instance

/-! ## The schedule -/

def dut (g : GSem nD τ sig) (r : ℕ) : Finset Bool :=
  if g.1.2 = .tc then
    match g.2 with
    | .reg s => if s = barS then (if r = 0 then Finset.univ else ∅) else if r < 5 then {false} else ∅
    | .dma q => if 3 ≤ q.val ∧ r = 0 then {false} else ∅
  else ∅
def amt (g : GSem nD τ sig) : ℕ :=
  match g.2 with
  | .reg _ => 1
  | .dma q => if q.val < 31 then Nb else Na
theorem amt_pos (g : GSem nD τ sig) : 0 < amt g := by
  unfold amt; split
  · exact Nat.one_pos
  · split
    · exact Nb_pos
    · exact Na_pos

/-- A barrier cell has one round of two units, one from either neighbour; a credit cell five rounds of one unit; a DMA cell
    one round of the transfer's credit. -/
def Rd : Rounds.Schedule (GSem nD τ sig) Bool 𝕄 where
  duties := dut
  unitless _ := False
  amount g _ _ := amt g
  payload g r d :=
    match g.2 with
    | .reg s => if s = barS then barPay d g.1.1 else crPay (decide (s = crS true)) r g.1.1
    | .dma q => dmaPay m ((q.val - 3) / 7) ((q.val - 3) % 7) g.1.1
  amount_pos g _ _ _ := amt_pos g

instance Rd_payload_storable (g : GSem nD τ sig) (r : ℕ) (d : Bool) :
    BI.Storable (upEmb : UEmb _ 𝕄) ((Rd (F := F) m).payload g r d) := by
  unfold Rd; dsimp only
  split
  · split <;> infer_instance
  · infer_instance

section Tables
variable (c : Dev nD)

theorem dq_ge (j h : ℕ) : 3 ≤ (dq j h).val := by rw [dq_val]; omega
theorem dq_div {j h : ℕ} (hj : j < 6) (hh : h < 7) : ((dq j h).val - 3) / 7 = j := by rw [dq_val]; omega
theorem dq_mod {j h : ℕ} (hj : j < 6) (hh : h < 7) : ((dq j h).val - 3) % 7 = h := by rw [dq_val]; omega

theorem duties_d (j h : ℕ) : (Rd (F := F) m).duties (dcell j h c) 0 = {false} := by
  show dut (dcell j h c) 0 = _; unfold dut; rw [if_pos rfl]; exact if_pos ⟨dq_ge j h, rfl⟩
theorem duties_b : (Rd (F := F) m).duties (bcell c) 0 = Finset.univ := by
  show dut (bcell c) 0 = _; unfold dut; rw [if_pos rfl]; dsimp only; rw [if_pos rfl, if_pos rfl]
theorem duties_c (d : Bool) (r : ℕ) (hr : r < 5) : (Rd (F := F) m).duties (ccell d c) r = {false} := by
  show dut (ccell d c) r = _; unfold dut; rw [if_pos rfl]; dsimp only; rw [if_neg (crS_ne_bar d), if_pos hr]
theorem later_d (j h : ℕ) : ∀ r, 1 ≤ r → (Rd (F := F) m).duties (dcell j h c) r = ∅ := fun r hr => by
  show dut (dcell j h c) r = _; unfold dut; rw [if_pos rfl]; exact if_neg fun h => by omega
theorem later_b : ∀ r, 1 ≤ r → (Rd (F := F) m).duties (bcell c) r = ∅ := fun r hr => by
  show dut (bcell c) r = _; unfold dut; rw [if_pos rfl]; dsimp only; rw [if_pos rfl, if_neg (by omega)]
theorem later_c (d : Bool) : ∀ r, 5 ≤ r → (Rd (F := F) m).duties (ccell d c) r = ∅ := fun r hr => by
  show dut (ccell d c) r = _; unfold dut; rw [if_pos rfl]; dsimp only; rw [if_neg (crS_ne_bar d), if_neg (by omega)]

/-- What a DMA cell of group `j` counts. -/
def amtD (j : ℕ) : ℕ := if j < 4 then Nb else Na
theorem amount_d {j h : ℕ} (hj : j < 6) (hh : h < 7) (r : ℕ) (b : Bool) : (Rd (F := F) m).amount (dcell j h c) r b = amtD j := by
  show (if (dq j h).val < 31 then Nb else Na) = _
  unfold amtD; have := dq_val j h
  by_cases h4 : j < 4
  · rw [if_pos h4, if_pos (by omega)]
  · rw [if_neg h4, if_neg (by omega)]

theorem expect_d {j h : ℕ} (hj : j < 6) (hh : h < 7) : (Rd (F := F) m).expect (dcell j h c) 0 = amtD j := by
  unfold Schedule.expect Schedule.amountOf; rw [duties_d, Finset.sum_singleton, amount_d m c hj hh]
theorem expect_b : (Rd (F := F) m).expect (bcell c) 0 = 2 := by
  unfold Schedule.expect Schedule.amountOf
  rw [duties_b]; exact (Finset.sum_const _).trans rfl
theorem expect_c (d : Bool) (r : ℕ) (hr : r < 5) : (Rd (F := F) m).expect (ccell d c) r = 1 := by
  unfold Schedule.expect Schedule.amountOf; rw [duties_c m c d r hr, Finset.sum_singleton]; rfl

theorem payload_d {j h : ℕ} (hj : j < 6) (hh : h < 7) (r : ℕ) (b : Bool) : (Rd (F := F) m).payload (dcell j h c) r b = dmaPay m j h c := by
  show dmaPay m (((dq j h).val - 3) / 7) (((dq j h).val - 3) % 7) c = _
  rw [dq_div hj hh, dq_mod hj hh]
theorem payload_b (r : ℕ) (b : Bool) : (Rd (F := F) m).payload (bcell c) r b = barPay b c := by
  show (if barS = barS then barPay b c else crPay (decide (barS = crS true)) r c) = _; rw [if_pos rfl]
theorem payload_c (d : Bool) (r : ℕ) (b : Bool) : (Rd (F := F) m).payload (ccell d c) r b = crPay d r c := by
  show (if crS d = barS then _ else crPay (decide (crS d = crS true)) r c) = _
  rw [if_neg (crS_ne_bar d)]; cases d
  · rw [decide_eq_false (by decide)]
  · rw [decide_eq_true rfl]

theorem rest_d {j h : ℕ} (hj : j < 6) (hh : h < 7) :
    bigSep ((Rd (F := F) m).duties (dcell j h c) 0 \ ∅) (fun b => (Rd (F := F) m).payload (dcell j h c) 0 b) = dmaPay m j h c := by
  rw [Finset.sdiff_empty, duties_d, bigSep_singleton, payload_d m c hj hh]
theorem rest_c (d : Bool) (r : ℕ) (hr : r < 5) :
    bigSep ((Rd (F := F) m).duties (ccell d c) r \ ∅) (fun b => (Rd (F := F) m).payload (ccell d c) r b) = crPay d r c := by
  rw [Finset.sdiff_empty, duties_c m c d r hr, bigSep_singleton, payload_c]
theorem rest_b :
    bigSep ((Rd (F := F) m).duties (bcell c) 0 \ ∅) (fun b => (Rd (F := F) m).payload (bcell c) 0 b)
      = iprop(barPay false c ∗ barPay true c) := by
  rw [Finset.sdiff_empty, duties_b, bigSep_univ_eq_bigSepL [false, true] (by decide) (by decide), bigSepL_cons_cons, bigSepL_singleton,
    payload_b, payload_b]
  rfl

end Tables

/-! ## Levels, and what each device still owes -/

def L (g : GSem nD τ sig) : Finset ℕ := if g.1.2 = .tc then Finset.range 8 else ∅
/-- The level of a cell: its place in the order in which waits release one another. -/
def lvS (s : SemLoc sig) (ι : ℕ) : ℕ :=
  match s with
  | .reg s => if s.val = 2 then 1 else 2 * ι + 5
  | .dma q =>
    if q.val < 3 then 0 else
    match (q.val - 3) / 7 with
    | 1 => 2 * ((q.val - 3) % 7) + 2
    | 3 => 2 * ((q.val - 3) % 7) + 2
    | 5 => 17
    | _ => 0
def lv (g : GSem nD τ sig) (ι : ℕ) : ℕ := lvS g.2 ι
theorem L_of_ne (g : GSem nD τ sig) (h : g.1.2 ≠ .tc) : L g = ∅ := if_neg h
theorem L_tc (c : Dev nD) (s : SemLoc sig) : L ((c : Thread nD τ), s) = Finset.range 8 := if_pos rfl

/-- One payment: how far away the paid device stands, its cell, the level index, and whether it is of units (`0`), of a
    half block's credit (`1`) or of a row's (`2`). -/
structure Due where
  k : ℕ
  s : SemLoc sig
  ι : ℕ
  n : ℕ
def unitsOf : ℕ → ℕ
  | 0 => 1
  | 1 => Nb
  | _ => Na
def hopDues (h : ℕ) : List Due := [⟨1, .dma (dq 1 h), 0, 1⟩, ⟨7, .dma (dq 3 h), 0, 1⟩]
def crDues (r : ℕ) : List Due := [⟨7, .reg (crS false), r, 0⟩, ⟨1, .reg (crS true), r, 0⟩]
/-- Every payment of a device, in the order it makes them. -/
def dues : List Due :=
  [⟨7, .reg barS, 0, 0⟩, ⟨1, .reg barS, 0, 0⟩] ++ hopDues 0 ++ hopDues 1
    ++ (crDues 0 ++ hopDues 2) ++ (crDues 1 ++ hopDues 3) ++ (crDues 2 ++ hopDues 4) ++ (crDues 3 ++ hopDues 5) ++ (crDues 4 ++ hopDues 6)
    ++ [⟨1, .dma (dq 5 0), 0, 2⟩, ⟨2, .dma (dq 5 1), 0, 2⟩, ⟨3, .dma (dq 5 2), 0, 2⟩, ⟨4, .dma (dq 5 3), 0, 2⟩,
        ⟨5, .dma (dq 5 4), 0, 2⟩, ⟨6, .dma (dq 5 5), 0, 2⟩, ⟨7, .dma (dq 5 6), 0, 2⟩]
def oweL (c : Dev nD) : List Due → CellTallies nD τ sig ℕ
  | [] => 0
  | x :: l => oweL c l + tallyAt ((sh x.k c : Thread nD τ), x.s) x.ι (unitsOf x.n)
/-- What device `c` owes after its first `n` payments. -/
def owe (n : ℕ) (c : Dev nD) : CellTallies nD τ sig ℕ := oweL c (dues.drop n)

theorem oweL_pos {c : Dev nD} {l : List Due} {g : GSem nD τ sig} {u : ℕ} (h : 0 < oweL c l g u) :
    ∃ x ∈ l, g = ((sh x.k c : Thread nD τ), x.s) ∧ u = x.ι := by
  induction l with
  | nil => exact absurd h (Nat.lt_irrefl 0)
  | cons x l ih =>
    unfold oweL at h
    rw [Pi.add_apply, Finsupp.add_apply, tallyAt_apply] at h
    by_cases hx : g = ((sh x.k c : Thread nD τ), x.s) ∧ u = x.ι
    · exact ⟨x, List.mem_cons_self, hx⟩
    · rw [if_neg hx, Nat.add_zero] at h
      obtain ⟨y, hy, e⟩ := ih h
      exact ⟨y, List.mem_cons_of_mem _ hy, e⟩

/-- Every payment still owed lies above the cell waited on. -/
def above (n : ℕ) (s : SemLoc sig) (ι : ℕ) : Bool := (dues.drop n).all fun x => decide (lvS s ι < lvS x.s x.ι)
theorem dues_ι : (dues.all fun x => decide (x.ι < 8)) = true := by decide

theorem mayWait {n : ℕ} {s : SemLoc sig} {ι : ℕ} (hι : ι < 8) (h : above n s ι = true) (c : Dev nD) :
    (levAts L lv : sProp 𝕄) ⊢ MayWait (c : Thread nD τ) s ι (owe n c) :=
  MayOwe.of_cut (L := L) (lev := lv) (lvS s ι)
    (fun p hp => by rw [Finset.mem_singleton.mp hp, L_tc]; exact Finset.mem_range.mpr hι)
    (fun g u hg => by
      obtain ⟨x, hx, rfl, rfl⟩ := oweL_pos hg
      rw [L_tc]; exact Finset.mem_range.mpr (of_decide_eq_true (List.all_eq_true.mp dues_ι x (List.mem_of_mem_drop hx))))
    (fun p hp => by rw [Finset.mem_singleton.mp hp]; exact le_refl _)
    (fun g u hg => by
      obtain ⟨x, hx, rfl, rfl⟩ := oweL_pos hg
      exact of_decide_eq_true (List.all_eq_true.mp h x hx))

end Cert.Ring8

end
-- ==== Proof.Ops.lean ====
/-
One rule per kind of step the body takes, at any device, direction and hop.
-/
module

public import proofs.«01_k».proof.Proof.Schedule

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)

abbrev 𝒱₀ : Variants := Variants.none

/-- The proposition that device `c`'s program `p` runs to `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells together -/

/-- A device's own semaphores (groups and hops, then the two credit cells); with its barrier cell. -/
abbrev OI : Type := (Fin 6 × Fin 7) ⊕ Bool
abbrev KI : Type := OI ⊕ Unit
def osem : OI → SemLoc sig
  | .inl jh => .dma (dq jh.1.val jh.2.val)
  | .inr d => .reg (crS d)
def csem : KI → SemLoc sig
  | .inl o => osem o
  | .inr _ => .reg barS
def kcell (x : Dev nD × KI) : GSem nD τ sig := ((x.1 : Thread nD τ), csem x.2)

def invsAll (K : Dev nD × KI → ℕ) : sProp 𝕄 :=
  iprop(bigSep Finset.univ (fun x => cellInv ER (Rd m) (K x) (kcell x)) ∗ bigSep Finset.univ (fun x => reached ER (kcell x) 0))
/-- What every step may use: the cells' invariants, that each cell has reached its round 0, and the levels. -/
def env (K : Dev nD × KI → ℕ) : sProp 𝕄 := iprop(invsAll m K ∗ levAts L lv)
instance env_persistent (K : Dev nD × KI → ℕ) : BI.Persistent (env m K) := by unfold env invsAll; infer_instance

variable (K : Dev nD × KI → ℕ)

theorem env_inv (x : Dev nD × KI) : env m K ⊢ cellInv ER (Rd m) (K x) (kcell x) := by
  unfold env invsAll; iintro ⟨⟨H, -⟩, -⟩
  ihave H' := (show bigSep Finset.univ (fun x => cellInv ER (Rd m) (K x) (kcell x)) ⊢ cellInv ER (Rd m) (K x) (kcell x) from bigSep_elim (Finset.mem_univ x)) $$ H
  iexact H'
theorem env_reached (x : Dev nD × KI) : env m K ⊢ reached ER (kcell x) 0 := by
  unfold env invsAll; iintro ⟨⟨-, H⟩, -⟩
  ihave H' := (show bigSep Finset.univ (fun x => (reached ER (kcell x) 0 : sProp 𝕄)) ⊢ reached ER (kcell x) 0 from bigSep_elim (Finset.mem_univ x)) $$ H
  iexact H'
theorem env_lev : env m K ⊢ levAts L lv := by
  unfold env; iintro ⟨-, H⟩; iexact H

/-- What device `c` still owes after `n` payments, with the waits it has made. -/
def owesE (n : ℕ) (c : Dev nD) : sProp 𝕄 := iprop(∃ W, owes (c : Thread nD τ) (owe n c) W)

variable {α : Type}

/-! ## Waits on DMA cells -/

/-- A wait for a transfer's whole credit, after which the cell is closed at zero. -/
theorem wait_d {j h : ℕ} (hj : j < 6) (hh : h < 7) {n : ℕ} (hab : above n (.dma (dq j h)) 0 = true) (c : Dev nD)
    {s₁ s₂ : Shape} {e₁ e₂ : EltTy} {sp₁ sp₂ : Space} {sem : DmaSem sig} (hs : sem = dq j h)
    {src : Memref sig .tc sp₁ s₁ e₁} {dst : Memref sig .tc sp₂ s₂ e₂} {hsrc : src.view.WordExact} {hdst : dst.view.WordExact}
    (hN : dst.view.dmaCredit = amtD j) {k : PUnit → Prog (TpuEff nD τ sig (Elt F) Λ₀ .tc) α} {Q : α → sProp (MT nD τ sig ℕ (Elt F) ℕ UU ℕ)} :
    env m K ⊢ iprop(cred (tallyAt (dcell j h c) 0 (amtD j)) -∗ owesE n c -∗ atPos ER (dcell j h c) 0 ∅ 0
      -∗ ((owesE n c ∗ semVal (dcell j h c) 0 ∗ dmaPay m j h c) -∗ Run c (k ⟨⟩) Q)
      -∗ Run c (.op (.waitDma2 sem src dst hsrc hdst) k) Q) := by
  subst hs
  unfold owesE
  iintro #He Hc ⟨%W, HO⟩ Hat Hk
  ihave #HI := (env_inv m K (c, .inl (.inl (⟨j, hj⟩, ⟨h, hh⟩)))) $$ He
  iapply (Rounds.wp_wait_rest_token 𝒱₀ ER (Rd m) (c : Thread nD τ) none (κ := K (c, .inl (.inl (⟨j, hj⟩, ⟨h, hh⟩))))
      (wpE_waitDma2_eq 𝒱₀ (c : Thread nD τ) none Set.univ) (Set.mem_univ _) 0 (O := owe n c) (W := W) (R := 0) (m := 0) (T := ∅)
      (by rw [hN, Nat.zero_add]; exact (expect_d m c hj hh).symm)) $$ [Hc HO Hat]
  · isplitr; · iexact HI
    isplitl [Hc]; · rw [hN]; iexact Hc
    isplitl [HO]; · iexact HO
    isplitr; · iapply (mayWait (by decide) hab c); iapply (env_lev m K); iexact He
    iexact Hat
  iintro ⟨HO, Hat, -, Hpay⟩
  ihave Hp := (Entails.of_eq (rest_d m c hj hh)) $$ Hpay
  imod (Rounds.cell_close ER (Rd m) (Set.mem_univ (K (c, .inl (.inl (⟨j, hj⟩, ⟨h, hh⟩))))) (fun h => h) (R := 0 + 1) (later_d m c j h)) $$ [Hat] with Hz
  · isplitr; · iexact HI
    iexact Hat
  iapply Hk
  isplitl [HO]; · iexists _; iexact HO
  isplitl [Hz]; · iexact Hz
  iexact Hp

/-! ## Credits -/

/-- A wait for the credit of round `r`: the receiver's slot is the device's to fill. -/
theorem wait_c (d : Bool) {r : ℕ} (hr : r < 5) {n : ℕ} (hab : above n (.reg (crS d)) r = true) (c : Dev nD)
    {sem : Sem sig} (hs : sem = crS d) {w : ℤ} (hw : w = 1) {k : PUnit → Prog (TpuEff nD τ sig (Elt F) Λ₀ .tc) α} {Q : α → sProp (MT nD τ sig ℕ (Elt F) ℕ UU ℕ)} :
    env m K ⊢ iprop(cred (tallyAt (ccell d c) r 1) -∗ owesE n c -∗ atPos ER (ccell d c) r ∅ 0
      -∗ ((owesE n c ∗ atPos ER (ccell d c) (r + 1) ∅ 0 ∗ reached ER (ccell d c) (r + 1) ∗ crPay d r c) -∗ Run c (k ⟨⟩) Q)
      -∗ Run c (.op (.semWait sem w) k) Q) := by
  subst hs; subst hw
  unfold owesE
  iintro #He Hc ⟨%W, HO⟩ Hat Hk
  ihave #HI := (env_inv m K (c, .inl (.inr d))) $$ He
  iapply (Rounds.wp_wait_rest_token 𝒱₀ ER (Rd m) (c : Thread nD τ) none (κ := K (c, .inl (.inr d)))
      (wpE_semWait_eq 𝒱₀ (c : Thread nD τ) none Set.univ) (Set.mem_univ _) r (O := owe n c) (W := W) (R := r) (m := 0) (T := ∅)
      (by rw [Nat.zero_add]; exact (expect_c m c d r hr).symm)) $$ [Hc HO Hat]
  · isplitr; · iexact HI
    isplitl [Hc]; · iexact Hc
    isplitl [HO]; · iexact HO
    isplitr; · iapply (mayWait (by omega) hab c); iapply (env_lev m K); iexact He
    iexact Hat
  iintro ⟨HO, Hat, Hr, Hpay⟩
  ihave Hp := (Entails.of_eq (rest_c m c d r hr)) $$ Hpay
  iapply Hk
  isplitl [HO]; · iexists _; iexact HO
  isplitl [Hat]; · iexact Hat
  isplitl [Hr]; · iexact Hr
  iexact Hp

theorem close_c (d : Bool) (c : Dev nD) : env m K ⊢ iprop(atPos ER (ccell d c) 5 ∅ 0 -∗ |={Set.univ}=> semVal (ccell d c) 0) := by
  iintro #He Hat
  iapply (Rounds.cell_close ER (Rd m) (Set.mem_univ (K (c, .inl (.inr d)))) (fun h => h) (R := 5) (later_c m c d))
  isplitr; · iapply (env_inv m K (c, .inl (.inr d))); iexact He
  iexact Hat

/-- A credit given to the device before: the slot just emptied. -/
theorem signal_c (d : Bool) {r : ℕ} (hr : r < 5) {n : ℕ} (c c' : Dev nD) (hc : c' = pv d c)
    (hd : ∀ c, owe n c = owe (n + 1) c + tallyAt (ccell d (pv d c)) r 1)
    {sem : Sem sig} (hs : sem = crS d) {w : ℤ} (hw : w = 1) {k : PUnit → Prog (TpuEff nD τ sig (Elt F) Λ₀ .tc) α} {Q : α → sProp (MT nD τ sig ℕ (Elt F) ℕ UU ℕ)} :
    env m K ⊢ iprop(reached ER (ccell d (pv d c)) r -∗ dutyTok ER (ccell d (pv d c)) r false -∗ slotAny d (slotOf (r + 1)) c -∗ owesE n c
      -∗ (owesE (n + 1) c -∗ Run c (k ⟨⟩) Q)
      -∗ Run c (.op (.semSignal (c' : Thread nD τ) sem w) k) Q) := by
  subst hs; subst hw; subst hc
  unfold owesE
  iintro #He Hr Ht Hs ⟨%W, HO⟩ Hk
  ihave #HI := (env_inv m K (pv d c, .inl (.inr d))) $$ He
  iapply (Rounds.wp_signal 𝒱₀ ER (Rd m) (c : Thread nD τ) none (dst := (pv d c : Thread nD τ)) (κ := K (pv d c, .inl (.inr d)))
      (d := false) (by rw [duties_c m _ d r hr]; exact Finset.mem_singleton_self _) rfl r (owe (n + 1) c) (hd c)) $$ [HO Ht Hs Hr]
  · isplitr; · iexact HI
    isplitl [HO]; · iexact HO
    isplitl [Ht]; · iexact Ht
    isplitl [Hs]; · rw [payload_c]; unfold crPay; rw [nx_pv]; iexact Hs
    iexact Hr
  iintro HO
  iapply Hk
  iexists _; iexact HO

/-! ## The barrier -/

theorem signal_b (d : Bool) {n : ℕ} (c c' : Dev nD) (hc : c' = pv d c)
    (hd : ∀ c, owe n c = owe (n + 1) c + tallyAt (bcell (pv d c)) 0 1)
    {sem : Sem sig} (hs : sem = barS) {w : ℤ} (hw : w = 1) {k : PUnit → Prog (TpuEff nD τ sig (Elt F) Λ₀ .tc) α} {Q : α → sProp (MT nD τ sig ℕ (Elt F) ℕ UU ℕ)} :
    env m K ⊢ iprop(dutyTok ER (bcell (pv d c)) 0 d -∗ slotAny d 0 c -∗ slotAny d 1 c -∗ owesE n c
      -∗ (owesE (n + 1) c -∗ Run c (k ⟨⟩) Q)
      -∗ Run c (.op (.semSignal (c' : Thread nD τ) sem w) k) Q) := by
  subst hs; subst hw; subst hc
  unfold owesE
  iintro #He Ht Hs0 Hs1 ⟨%W, HO⟩ Hk
  ihave #HI := (env_inv m K (pv d c, .inr ())) $$ He
  ihave #Hr := (env_reached m K (pv d c, .inr ())) $$ He
  iapply (Rounds.wp_signal 𝒱₀ ER (Rd m) (c : Thread nD τ) none (dst := (pv d c : Thread nD τ)) (κ := K (pv d c, .inr ()))
      (d := d) (by rw [duties_b m]; exact Finset.mem_univ _) rfl 0 (owe (n + 1) c) (hd c)) $$ [HO Ht Hs0 Hs1]
  · isplitr; · iexact HI
    isplitl [HO]; · iexact HO
    isplitl [Ht]; · iexact Ht
    isplitl [Hs0 Hs1]; · rw [payload_b]; unfold barPay; rw [nx_pv]; isplitl [Hs0] <;> iassumption
    iexact Hr
  iintro HO
  iapply Hk
  iexists _; iexact HO

theorem wait_b {n : ℕ} (hab : above n (.reg barS) 0 = true) (c : Dev nD)
    {sem : Sem sig} (hs : sem = barS) {w : ℤ} (hw : w = 2) {k : PUnit → Prog (TpuEff nD τ sig (Elt F) Λ₀ .tc) α} {Q : α → sProp (MT nD τ sig ℕ (Elt F) ℕ UU ℕ)} :
    env m K ⊢ iprop(cred (tallyAt (bcell c) 0 2) -∗ owesE n c -∗ atPos ER (bcell c) 0 ∅ 0
      -∗ ((owesE n c ∗ semVal (bcell c) 0 ∗ barPay false c ∗ barPay true c) -∗ Run c (k ⟨⟩) Q)
      -∗ Run c (.op (.semWait sem w) k) Q) := by
  subst hs; subst hw
  unfold owesE
  iintro #He Hc ⟨%W, HO⟩ Hat Hk
  ihave #HI := (env_inv m K (c, .inr ())) $$ He
  iapply (Rounds.wp_wait_rest_token 𝒱₀ ER (Rd m) (c : Thread nD τ) none (κ := K (c, .inr ()))
      (wpE_semWait_eq 𝒱₀ (c : Thread nD τ) none Set.univ) (Set.mem_univ _) 0 (O := owe n c) (W := W) (R := 0) (m := 0) (T := ∅)
      (by rw [Nat.zero_add]; exact (expect_b m c).symm)) $$ [Hc HO Hat]
  · isplitr; · iexact HI
    isplitl [Hc]; · iexact Hc
    isplitl [HO]; · iexact HO
    isplitr; · iapply (mayWait (by decide) hab c); iapply (env_lev m K); iexact He
    iexact Hat
  iintro ⟨HO, Hat, -, Hpay⟩
  ihave Hp := (Entails.of_eq (rest_b m c)) $$ Hpay
  imod (Rounds.cell_close ER (Rd m) (Set.mem_univ (K (c, .inr ()))) (fun h => h) (R := 0 + 1) (later_b m c)) $$ [Hat] with Hz
  · isplitr; · iexact HI
    iexact Hat
  iapply Hk
  isplitl [HO]; · iexists _; iexact HO
  isplitl [Hz]; · iexact Hz
  iexact Hp

/-! ## Transfers -/

theorem orig_pred (d : Bool) (h : ℕ) (c : Dev nD) : orig d (h + 1) (nx d c) = orig d h c := orig_nx d h c

theorem jS_lt (d : Bool) : jS d < 6 := by cases d <;> decide
theorem jR_lt (d : Bool) : jR d < 6 := by cases d <;> decide
theorem amtD_S (d : Bool) : amtD (jS d) = Nb := by cases d <;> rfl
theorem amtD_R (d : Bool) : amtD (jR d) = Nb := by cases d <;> rfl
theorem pay_S (d : Bool) (h : ℕ) (c : Dev nD) : dmaPay m (jS d) h c = srcC m d c h := by cases d <;> rfl
theorem pay_R (d : Bool) (h : ℕ) (c : Dev nD) : dmaPay m (jR d) h c = landC m d h c := by cases d <;> rfl

/-- A transfer from any memref that holds `X` into a memref of `c'`: the source as lent goes to the send cell, the
    destination holding `X`, with what it carries along, to the receive cell. -/
theorem send_gen {j₁ j₂ h : ℕ} (hj₁ : j₁ < 6) (hj₂ : j₂ < 6) (hh : h < 7) {N : ℕ} (hN₁ : amtD j₁ = N) (hN₂ : amtD j₂ = N)
    {n : ℕ} (c c' : Dev nD) (q : PosShare TreeShare)
    (hd : owe n c = owe (n + 1) c + tallyAt (dcell j₂ h c') 0 N)
    {s : Shape} {e : EltTy} {src dst : Memref sig .tc .vmem s e} {X : s.Idx → Elt F e} {R : sProp 𝕄}
    (hN : dst.view.dmaCredit = N)
    (hpay₁ : owns (c : Thread nD τ) src q X ⊢ dmaPay m j₁ h c)
    (hpay₂ : iprop(owns (c' : Thread nD τ) dst fullShare X ∗ R) ⊢ dmaPay m j₂ h c')
    {sS sR : DmaSem sig} (hS : sS = dq j₁ h) (hR : sR = dq j₂ h)
    {hsc : (dst : Memref sig (Dev.tc c' : Thread nD τ).2.kind .vmem s e).view.ref.isScScratch = false}
    {hsrc : src.view.WordExact} {hdst : dst.view.WordExact}
    {hsem : DmaTarget.Typed .vmem (.dma sR) (.remote (Dev.tc c' : Thread nD τ) dst (.dma sS) hsc)}
    {k : PUnit → Prog (TpuEff nD τ sig (Elt F) Λ₀ .tc) α} {Q : α → sProp (MT nD τ sig ℕ (Elt F) ℕ UU ℕ)} :
    env m K ⊢ iprop(owns (c : Thread nD τ) src q X -∗ (∃ Y, owns (c' : Thread nD τ) dst fullShare Y) -∗ R
      -∗ dutyTok ER (dcell j₁ h c) 0 false -∗ dutyTok ER (dcell j₂ h c') 0 false -∗ owesE n c
      -∗ ((cred (tallyAt (dcell j₁ h c) 0 (amtD j₁)) ∗ owesE (n + 1) c) -∗ Run c (k ⟨⟩) Q)
      -∗ Run c (.op (.enqueueDma src (.remote (Dev.tc c' : Thread nD τ) dst (.dma sS) hsc) (.dma sR) hsrc hdst hsem) k) Q) := by
  subst hS; subst hR
  unfold owesE
  iintro #He Hsrc ⟨%Y, Hdst⟩ Hcar Ht1 Ht2 ⟨%W, HO⟩ Hk
  ihave #HI1 := (env_inv m K (c, .inl (.inl (⟨j₁, hj₁⟩, ⟨h, hh⟩)))) $$ He
  ihave #HI2 := (env_inv m K (c', .inl (.inl (⟨j₂, hj₂⟩, ⟨h, hh⟩)))) $$ He
  ihave #Hr1 := (env_reached m K (c, .inl (.inl (⟨j₁, hj₁⟩, ⟨h, hh⟩)))) $$ He
  ihave #Hr2 := (env_reached m K (c', .inl (.inl (⟨j₂, hj₂⟩, ⟨h, hh⟩)))) $$ He
  ihave Hs := (show owns (c : Thread nD τ) src q X ⊢ iprop(∃ f, ⌜src.view.read (Elt F) f = X⌝ ∗ (src.view.loc (c : Thread nD τ) ↦[src.view.set]{q} f)) from .rfl) $$ Hsrc
  ihave Hd := (show owns (c' : Thread nD τ) dst fullShare Y ⊢ iprop(∃ f, ⌜dst.view.read (Elt F) f = Y⌝ ∗ (dst.view.loc (c' : Thread nD τ) ↦[dst.view.set]{fullShare} f)) from .rfl) $$ Hdst
  icases Hs with ⟨%fs, %hfs, Hs⟩
  icases Hd with ⟨%fd, %hfd, Hd⟩
  iapply (Rounds.wp_send_pointsTo_with 𝒱₀ ER (Rd m) (c : Thread nD τ) none (κ₁ := K (c, .inl (.inl (⟨j₁, hj₁⟩, ⟨h, hh⟩))))
    (κ₂ := K (c', .inl (.inl (⟨j₂, hj₂⟩, ⟨h, hh⟩)))) (c' := (c' : Thread nD τ)) (src := src) (dst := dst)
    (sS := .dma (dq j₁ h)) (sem := .dma (dq j₂ h)) (q := q)
    (r₁ := 0) (r₂ := 0) (d₁ := false) (d₂ := false) (fd := fd) (fs := fs) (F := R)
    (by rw [duties_d m]; exact Finset.mem_singleton_self _) (by rw [duties_d m]; exact Finset.mem_singleton_self _)
    0 0 N hN ((amount_d m c hj₁ hh _ _).trans hN₁) ((amount_d m _ hj₂ hh _ _).trans hN₂)
    (owe (n + 1) c) hd (W := W)
    (by rw [payload_d m c hj₁ hh]
        refine BIBase.Entails.trans ?_ hpay₁
        unfold owns; iintro H; iexists fs; isplitr
        · ipureintro; exact hfs
        · iexact H)
    (by rw [payload_d m _ hj₂ hh]
        refine BIBase.Entails.trans ?_ hpay₂
        unfold owns; iintro ⟨H, HF⟩
        isplitl [H]
        · iexists (dst.view.write (Elt F) fd (src.view.read (Elt F) fs) Finset.univ); isplitr
          · ipureintro
            exact (View.read_write_univ _ _).trans hfs
          · iexact H
        · iexact HF)) $$ [Hs Hd Hcar HO Ht1 Ht2]
  · isplitr; · iexact HI1
    isplitr; · iexact HI2
    isplitl [Hs]; · iexact Hs
    isplitl [Hd Hcar]; · isplitl [Hd] <;> iassumption
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [hN₁]; iexact Hc
  iexists _; iexact HO

/-- Hop `h`'s source memref. -/
abbrev srcM (d : Bool) : ℕ → Memref sig .tc .vmem S256x4096 .bf16
  | 0 => halfM d
  | h + 1 => slotM d (slotOf (h + 1))
abbrev srcQ : ℕ → PosShare TreeShare
  | 0 => fullShare
  | _ + 1 => fullShare.left
theorem srcC_eq (d : Bool) (c : Dev nD) (h : ℕ) : srcC m d c h = owns (c : Thread nD τ) (srcM d h) (srcQ h) (chunk m d (orig d h c)) := by
  cases h
  · show halfC d c (chunk m d c) = _; rw [orig_zero]; rfl
  · rfl

/-- Hop `h`'s transfer in direction `d`. -/
theorem send_h (d : Bool) {h : ℕ} (hh : h < 7) {n : ℕ} (c c' : Dev nD) (hc : c' = nx d c)
    (hd : ∀ c, owe n c = owe (n + 1) c + tallyAt (dcell (jR d) h (nx d c)) 0 Nb)
    {src dst : Memref sig .tc .vmem S256x4096 .bf16} (hsM : src = srcM d h) (hdM : dst = slotM d (slotOf (h + 1)))
    {sS sR : DmaSem sig} (hS : sS = dq (jS d) h) (hR : sR = dq (jR d) h)
    {hsc : (dst : Memref sig (Dev.tc c' : Thread nD τ).2.kind .vmem S256x4096 .bf16).view.ref.isScScratch = false}
    {hsrc : src.view.WordExact} {hdst : dst.view.WordExact}
    {hsem : DmaTarget.Typed .vmem (.dma sR) (.remote (Dev.tc c' : Thread nD τ) dst (.dma sS) hsc)}
    {k : PUnit → Prog (TpuEff nD τ sig (Elt F) Λ₀ .tc) α} {Q : α → sProp (MT nD τ sig ℕ (Elt F) ℕ UU ℕ)} :
    env m K ⊢ iprop(srcC m d c h -∗ slotAny d (slotOf (h + 1)) (nx d c) -∗ carry d h (nx d c)
      -∗ dutyTok ER (dcell (jS d) h c) 0 false -∗ dutyTok ER (dcell (jR d) h (nx d c)) 0 false -∗ owesE n c
      -∗ ((cred (tallyAt (dcell (jS d) h c) 0 (amtD (jS d))) ∗ owesE (n + 1) c) -∗ Run c (k ⟨⟩) Q)
      -∗ Run c (.op (.enqueueDma src (.remote (Dev.tc c' : Thread nD τ) dst (.dma sS) hsc) (.dma sR) hsrc hdst hsem) k) Q) := by
  subst hc; subst hsM; subst hdM
  rw [srcC_eq]
  exact send_gen m K (jS_lt d) (jR_lt d) hh (amtD_S d) (amtD_R d) c (nx d c) (srcQ h) (hd c) (credit_slot d _)
    (by rw [pay_S, srcC_eq]) (by rw [pay_R]; unfold landC slotC; rw [orig_nx]) hS hR

theorem row_back {j : ℕ} (hj : j < 7) (c : Dev nD) : sh (7 - j) (sh (j + 1) c) = c := sh_back (by omega) c

/-- The transfer of the device's own row of maxima to its `j`-th peer. -/
theorem send_r {j : ℕ} (hj : j < 7) {n : ℕ} (c c' : Dev nD) (hc : c' = sh (j + 1) c)
    (hd : ∀ c, owe n c = owe (n + 1) c + tallyAt (dcell 5 j (sh (j + 1) c)) 0 Na)
    {src dst : Memref sig .tc .vmem S1x128 .f32} (hsM : src = rowM c) (hdM : dst = rowM c)
    {sS sR : DmaSem sig} (hS : sS = dq 4 j) (hR : sR = dq 5 j)
    {hsc : (dst : Memref sig (Dev.tc c' : Thread nD τ).2.kind .vmem S1x128 .f32).view.ref.isScScratch = false}
    {hsrc : src.view.WordExact} {hdst : dst.view.WordExact}
    {hsem : DmaTarget.Typed .vmem (.dma sR) (.remote (Dev.tc c' : Thread nD τ) dst (.dma sS) hsc)}
    {k : PUnit → Prog (TpuEff nD τ sig (Elt F) Λ₀ .tc) α} {Q : α → sProp (MT nD τ sig ℕ (Elt F) ℕ UU ℕ)} :
    env m K ⊢ iprop(rowC c c (pieceQ j) (row m c) -∗ rowAny (sh (j + 1) c) c
      -∗ dutyTok ER (dcell 4 j c) 0 false -∗ dutyTok ER (dcell 5 j (sh (j + 1) c)) 0 false -∗ owesE n c
      -∗ ((cred (tallyAt (dcell 4 j c) 0 Na) ∗ owesE (n + 1) c) -∗ Run c (k ⟨⟩) Q)
      -∗ Run c (.op (.enqueueDma src (.remote (Dev.tc c' : Thread nD τ) dst (.dma sS) hsc) (.dma sR) hsrc hdst hsem) k) Q) := by
  subst hc; subst hsM; subst hdM
  unfold rowAny rowC
  iintro #He H1 H2 H3 H4 H5
  iapply (send_gen m K (j₁ := 4) (j₂ := 5) (by decide) (by decide) hj rfl rfl c (sh (j + 1) c) (pieceQ j) (hd c) (R := iprop(emp)) (credit_row c)
    (src := rowM c) (dst := rowM c) (X := row m c) (by exact .rfl) (by show _ ⊢ rowLand m j (sh (j + 1) c); unfold rowLand rowC; rw [row_back hj]; iintro ⟨H, -⟩; iexact H) hS hR) $$ He H1 H2 [] H3 H4 H5
  iempintro

end Cert.Ring8

end
-- ==== Proof.Mem.lean ====
/-
What the body's loads and stores do: the operands, the landing slots, the row of maxima, and the output, which is filled block by
block and then quantised block by block.
-/
module

public import proofs.«01_k».proof.Proof.Ops
public import Idealize.ShloMosaic.Lib.Pipeline.Value
public import Idealize.ShloMosaic.Lib.ValueIdxCore

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ)
variable {α : Type}

/-! ## Unit rectangles of whole buffers -/

/-- Where a unit rectangle puts a coordinate. -/
theorem unit_emb {s : Shape} {off sz : Fin s.rank → Nat} {inb : ∀ a, off a + sz a ≤ s.size a} (j : (Rect.unit off sz inb).shape.Idx)
    (a : Fin s.rank) : ((Rect.unit off sz inb).emb j a : ℕ) = off a + j a := by
  show off a + 1 * (j a : ℕ) = _; rw [Nat.one_mul]
/-- The rectangle's own coordinates of an index inside it. -/
def inside {s : Shape} {off sz : Fin s.rank → Nat} {inb : ∀ a, off a + sz a ≤ s.size a} (x : s.Idx)
    (h : ∀ a, off a ≤ x a ∧ (x a : ℕ) < off a + sz a) : (Rect.unit off sz inb).shape.Idx :=
  fun a => ⟨x a - off a, by have := h a; show _ < sz a; omega⟩
theorem emb_inside {s : Shape} {off sz : Fin s.rank → Nat} {inb : ∀ a, off a + sz a ≤ s.size a} (x : s.Idx)
    (h : ∀ a, off a ≤ x a ∧ (x a : ℕ) < off a + sz a) : (Rect.unit off sz inb).emb (inside x h) = x := by
  funext a; apply Fin.ext; rw [unit_emb]; have := h a; show off a + (x a - off a : ℕ) = _; omega

/-- A store into a whole buffer through a unit rectangle, at an index inside it, -/
theorem write_in (b : Ref sig .tc) {off sz : Fin b.ty.shape.rank → Nat} (inb : ∀ a, off a + sz a ≤ b.ty.shape.size a)
    (f : b.ty.Contents (Elt F)) (w : (Rect.unit off sz inb).shape.Idx → Elt F b.ty.elt) (x : b.ty.Idx)
    (h : ∀ a, off a ≤ x a ∧ (x a : ℕ) < off a + sz a) :
    ((Memref.whole b).access (Rect.unit off sz inb) : View sig .tc _ _ _).write (Elt F) f w Finset.univ x = w (inside x h) := by
  have e := View.write_emb_of_mem (v := ((Memref.whole b).access (Rect.unit off sz inb) : View sig .tc _ _ _)) (Val := Elt F) f w
    (M := Finset.univ) (x := inside x h) (Finset.mem_univ _)
  have he : ((Memref.whole b).access (Rect.unit off sz inb) : View sig .tc _ _ _).emb (inside x h) = x := emb_inside x h
  rw [he] at e; exact e
/-- and at one outside. -/
theorem write_out (b : Ref sig .tc) {off sz : Fin b.ty.shape.rank → Nat} (inb : ∀ a, off a + sz a ≤ b.ty.shape.size a)
    (f : b.ty.Contents (Elt F)) (w : (Rect.unit off sz inb).shape.Idx → Elt F b.ty.elt) (x : b.ty.Idx)
    (h : ¬ ∀ a, off a ≤ x a ∧ (x a : ℕ) < off a + sz a) :
    ((Memref.whole b).access (Rect.unit off sz inb) : View sig .tc _ _ _).write (Elt F) f w Finset.univ x = f x := by
  refine View.write_of_not_mem (v := ((Memref.whole b).access (Rect.unit off sz inb) : View sig .tc _ _ _)) (Val := Elt F) f w Finset.univ fun hx => h ?_
  obtain ⟨j, -, rfl⟩ := Finset.mem_map.mp hx
  intro a
  have e : ((((Memref.whole b).access (Rect.unit off sz inb) : View sig .tc _ _ _).emb j a : Fin _) : ℕ) = off a + j a := unit_emb j a
  rw [e]; have := (j a).isLt; exact ⟨Nat.le_add_right _ _, Nat.add_lt_add_left this _⟩

/-! ## The operands and the buffer of the cast block -/

def xE (c : Dev nD) : sProp 𝕄 := (c : Thread nD τ).loc cc0_stg0_0 ↦{fullShare} xs m c
def wE (c : Dev nD) : sProp 𝕄 := (c : Thread nD τ).loc cc0_stg1_0 ↦{fullShare} ws m c
def bAny (c : Dev nD) : sProp 𝕄 := iprop(∃ f, (c : Thread nD τ).loc cc0_scratch2 ↦{fullShare} f)

theorem zero2 : (![0, 0] : Fin 2 → Nat) = fun _ => 0 := by funext a; fin_cases a <;> rfl

theorem ld_x (c : Dev nD) {inb} {hl : (xM : Memref sig .tc .vmem S512x4096 .f32).view.LoadsAt (Rect.unit (s := S512x4096) ![0, 0] S512x4096.size inb).toLoadRect}
    {k : Vec F S512x4096 .f32 → Prog (TpuEff nD τ sig (Elt F) Λ₀ .tc) α} {Q : α → sProp (MT nD τ sig ℕ (Elt F) ℕ UU ℕ)} :
    xE m c ⊢ iprop((xE m c -∗ Run c (k (xs m c)) Q) -∗ Run c (.op (.load xM (Rect.unit (s := S512x4096) ![0, 0] S512x4096.size inb).toLoadRect hl) k) Q) := by
  unfold xE
  iintro H Hk
  iapply (wp_load 𝒱₀ (c : Thread nD τ) none Set.univ (m := xM) (Finset.subset_univ _)) $$ H; iintro H
  rw [show (xM : Memref sig .tc .vmem S512x4096 .f32).view.readAt (Elt F) (Rect.unit (s := S512x4096) ![0, 0] S512x4096.size inb).toLoadRect (xs m c) = xs m c
    from Memref.readAt_unit_zero (Elt F) cc0_stg0_0 zero2 inb (xs m c)]
  iapply Hk; iexact H

theorem ld_w (c : Dev nD) {inb} {hl : (wM : Memref sig .tc .vmem S4096x1024 .f32).view.LoadsAt (Rect.unit (s := S4096x1024) ![0, 0] S4096x1024.size inb).toLoadRect}
    {k : Vec F S4096x1024 .f32 → Prog (TpuEff nD τ sig (Elt F) Λ₀ .tc) α} {Q : α → sProp (MT nD τ sig ℕ (Elt F) ℕ UU ℕ)} :
    wE m c ⊢ iprop((wE m c -∗ Run c (k (ws m c)) Q) -∗ Run c (.op (.load wM (Rect.unit (s := S4096x1024) ![0, 0] S4096x1024.size inb).toLoadRect hl) k) Q) := by
  unfold wE
  iintro H Hk
  iapply (wp_load 𝒱₀ (c : Thread nD τ) none Set.univ (m := wM) (Finset.subset_univ _)) $$ H; iintro H
  rw [show (wM : Memref sig .tc .vmem S4096x1024 .f32).view.readAt (Elt F) (Rect.unit (s := S4096x1024) ![0, 0] S4096x1024.size inb).toLoadRect (ws m c) = ws m c
    from Memref.readAt_unit_zero (Elt F) cc0_stg1_0 zero2 inb (ws m c)]
  iapply Hk; iexact H

theorem ld_b (c : Dev nD) {r : LoadRect S512x4096} {hl : (bM : Memref sig .tc .vmem S512x4096 .bf16).view.LoadsAt r}
    {k : (r.shape.Idx → Elt F .bf16) → Prog (TpuEff nD τ sig (Elt F) Λ₀ .tc) α} {Q : α → sProp (MT nD τ sig ℕ (Elt F) ℕ UU ℕ)} :
    bAny (F := F) c ⊢ iprop((∀ v, bAny (F := F) c -∗ Run c (k v) Q) -∗ Run c (.op (.load bM r hl) k) Q) := by
  unfold bAny
  iintro ⟨%f, H⟩ Hk
  iapply (wp_load 𝒱₀ (c : Thread nD τ) none Set.univ (m := bM) (Finset.subset_univ _)) $$ H; iintro H
  iapply Hk; iexists f; iexact H

/-! The two halves are disjoint and cover the block. -/

theorem half_set (d : Bool) (x : S512x4096.Idx) : x ∈ (rHalf d).set ↔ (if d then 256 else 0) ≤ (x 0 : ℕ) ∧ (x 0 : ℕ) < (if d then 256 else 0) + 256 := by
  rw [← Rect.map_emb_univ, Finset.mem_map]
  constructor
  · rintro ⟨j, -, rfl⟩
    have e : ((rHalf d).emb j 0 : ℕ) = (if d then 256 else 0) + j 0 := unit_emb j 0
    have := (j 0).isLt; rw [e]; exact ⟨Nat.le_add_right _ _, Nat.add_lt_add_left this _⟩
  · intro h
    refine ⟨inside x fun a => ?_, Finset.mem_univ _, emb_inside x _⟩
    match a with
    | ⟨0, _⟩ => exact h
    | ⟨1, _⟩ => exact ⟨Nat.zero_le _, by have := (x 1).isLt; show (x 1 : ℕ) < 0 + 4096; rw [Nat.zero_add]; exact this⟩
theorem half_disj (d d' : Bool) (h : d ≠ d') : Disjoint (rHalf d).set (rHalf d').set := by
  rw [Finset.disjoint_left]; intro x h1 h2
  rw [half_set] at h1 h2
  cases d <;> cases d' <;> first | exact h rfl | (simp only [Bool.false_eq_true, if_true, if_false] at h1 h2; omega)
theorem half_cov : (Finset.univ : Finset Bool).biUnion (fun d => (rHalf d).set) = Finset.univ := by
  ext x; simp only [Finset.mem_biUnion, Finset.mem_univ, true_and, iff_true]
  have := (x 0).isLt
  by_cases h : (x 0 : ℕ) < 256
  · exact ⟨false, (half_set _ _).mpr ⟨Nat.zero_le _, by simpa using h⟩⟩
  · exact ⟨true, (half_set _ _).mpr ⟨by simpa using h, this⟩⟩

/-- The store of the cast block, whose halves the two directions then send. -/
theorem st_b (c : Dev nD) {inb} {w : Vec F S512x4096 .bf16} (hw : w = xb m c)
    {hx : ((bM : Memref sig .tc .vmem S512x4096 .bf16).access (Rect.unit (s := S512x4096) ![0, 0] S512x4096.size inb)).Stores Finset.univ} {hm}
    {k : PUnit → Prog (TpuEff nD τ sig (Elt F) Λ₀ .tc) α} {Q : α → sProp (MT nD τ sig ℕ (Elt F) ℕ UU ℕ)} :
    bAny (F := F) c ⊢ iprop(((srcC m false c 0 ∗ srcC m true c 0) -∗ Run c (k ⟨⟩) Q)
      -∗ Run c (.op (.store bM (Rect.unit (s := S512x4096) ![0, 0] S512x4096.size inb) w Finset.univ hx hm) k) Q) := by
  subst hw
  unfold bAny
  iintro ⟨%f, H⟩ Hk
  iapply (wp_store 𝒱₀ (c : Thread nD τ) none Set.univ (m := bM) (r := Rect.unit (s := S512x4096) ![0, 0] S512x4096.size inb) (Mk := Finset.univ) (Finset.subset_univ _)) $$ H
  iintro H
  rw [show ((bM : Memref sig .tc .vmem S512x4096 .bf16).access (Rect.unit (s := S512x4096) ![0, 0] S512x4096.size inb)).write (Elt F) f (xb m c) Finset.univ = xb m c
    from Memref.write_access_unit_zero_univ (Elt F) cc0_scratch2 zero2 inb f (xb m c)]
  iapply Hk
  have h : ((c : Thread nD τ).loc cc0_scratch2 ↦{fullShare} xb m c : sProp 𝕄) ⊢ iprop(srcC m false c 0 ∗ srcC m true c 0) := by
    refine BIBase.Entails.trans (Entails.of_eq (owns_whole (c : Thread nD τ) cc0_scratch2 fullShare (xb m c)).symm) ?_
    refine BIBase.Entails.trans (owns_rects (c : Thread nD τ) bM fullShare rHalf (fun _ _ => rfl) half_disj half_cov (xb m c)) ?_
    rw [bigSep_univ_eq_bigSepL [false, true] (by decide) (by decide), bigSepL_cons_cons, bigSepL_singleton]
    exact .rfl
  iapply h; iexact H

/-! ## The landing slots -/

/-- A half block as the slot's rectangle of the two-slot buffer shows it. -/
def unsq (X : Vec F S256x4096 .bf16) : Vec F S1x256x4096 .bf16 := shapeCast S1x256x4096 X (by decide)
theorem sq_unsq (X : Vec F S256x4096 .bf16) (h : S1x256x4096.ShapeCasts S256x4096) : shapeCast S256x4096 (unsq X) h = X := shapeCast_shapeCast X _ h
theorem unsq_sq (V : Vec F S1x256x4096 .bf16) (h : S1x256x4096.ShapeCasts S256x4096) : unsq (shapeCast S256x4096 V h) = V := shapeCast_shapeCast V h _

theorem slot_set (d : Bool) (s : Fin 2) : (slotM d s).view.set = ((cM d).view.slice (rSlot s)).set := by
  exact ((cM d).view.slice (rSlot s)).set_reshape squeezes_S1x256x4096_S256x4096.numel_eq

theorem ld_slot (d : Bool) (s : Fin 2) (q : PosShare TreeShare) (c : Dev nD) (X : Vec F S256x4096 .bf16) {M : Memref sig .tc .vmem S2x256x4096 .bf16} (hM : M = cM d) {off : Fin 3 → ℕ}
    (ho : off = ![s.val, 0, 0]) {inb} {hl : M.view.LoadsAt (Rect.unit (s := S2x256x4096) off S1x256x4096.size inb).toLoadRect}
    {k : Vec F S1x256x4096 .bf16 → Prog (TpuEff nD τ sig (Elt F) Λ₀ .tc) α} {Q : α → sProp (MT nD τ sig ℕ (Elt F) ℕ UU ℕ)} :
    slotC d s q c X ⊢ iprop((slotC d s q c X -∗ Run c (k (unsq X)) Q)
      -∗ Run c (.op (.load M (Rect.unit (s := S2x256x4096) off S1x256x4096.size inb).toLoadRect hl) k) Q) := by
  subst hM; subst ho
  unfold slotC
  iintro H Hk
  ihave H' := (show owns (c : Thread nD τ) (slotM d s) q X ⊢ iprop(∃ f, ⌜(slotM d s).view.read (Elt F) f = X⌝ ∗ ((slotM d s).view.loc (c : Thread nD τ) ↦[(slotM d s).view.set]{q} f)) from .rfl) $$ H
  icases H' with ⟨%f, %hf, H⟩
  have hv : (cM d).view.readAt (Elt F) (Rect.unit (s := S2x256x4096) ![s.val, 0, 0] S1x256x4096.size inb).toLoadRect f = unsq X := by
    rw [← hf]; exact (unsq_sq _ _).symm
  iapply (wp_load 𝒱₀ (c : Thread nD τ) none Set.univ (m := cM d) (q := q) (S := (slotM d s).view.set) (by rw [slot_set, View.set_slice]; exact Finset.Subset.refl _)) $$ H
  iintro H
  rw [hv]
  iapply Hk
  unfold owns
  iexists f
  isplitr
  · ipureintro; exact hf
  · iexact H

/-- A slot owned in full is owned at both half shares, -/
theorem slot_split (d : Bool) (s : Fin 2) (c : Dev nD) (X : Vec F S256x4096 .bf16) :
    slotC d s fullShare c X ⊢ iprop(slotC d s fullShare.left c X ∗ slotC d s fullShare.right c X) := by
  unfold slotC owns
  iintro ⟨%f, %hf, H⟩
  ihave H' := (pointsTo_share (PosShare.mem_left_op_right fullShare)).1 $$ H
  icases H' with ⟨H1, H2⟩
  isplitl [H1]
  · iexists f; isplitr
    · ipureintro; exact hf
    · iexact H1
  · iexists f; isplitr
    · ipureintro; exact hf
    · iexact H2
/-- and back. -/
theorem owns_join {s : Shape} {e : EltTy} (c : Dev nD) (M : Memref sig .tc .vmem s e) (q : PosShare TreeShare) (X Y : s.Idx → Elt F e) :
    (iprop(owns (c : Thread nD τ) M q.left X ∗ owns (c : Thread nD τ) M q.right Y) : sProp 𝕄) ⊢ owns (c : Thread nD τ) M q X := by
  unfold owns
  iintro ⟨⟨%f, %hf, H1⟩, ⟨%g, %hg, H2⟩⟩
  ihave %hag := (pointsTo_agree) $$ [H1 H2]
  · isplitl [H1] <;> iassumption
  have e : (M.view.loc (c : Thread nD τ) ↦[M.view.set]{q.right} g : sProp 𝕄) = M.view.loc (c : Thread nD τ) ↦[M.view.set]{q.right} f :=
    pointsTo_congr fun i hi => ((hag i (Finset.mem_inter.mpr ⟨hi, hi⟩)).1).symm
  iexists f
  isplitr
  · ipureintro; exact hf
  iapply (pointsTo_share (PosShare.mem_left_op_right q)).2
  isplitl [H1]
  · iexact H1
  · rw [← e]; iexact H2
theorem slot_join (d : Bool) (s : Fin 2) (c : Dev nD) (X Y : Vec F S256x4096 .bf16) :
    iprop(slotC d s fullShare.left c X ∗ slotC d s fullShare.right c Y) ⊢ slotAny d s c := by
  unfold slotAny slotC
  refine BIBase.Entails.trans (owns_join c (slotM d s) fullShare X Y) ?_
  iintro H; iexists X; iexact H

/-! ## The output: filled block by block -/

/-- The device whose rows the index lies in. -/
def rowDev (x : S4096x1024.Idx) : Dev nD := ⟨(x 0 : ℕ) / 512, by have := (x 0).isLt; show _ < 8; change _ < 4096 at this; omega⟩
/-- The cut-off product of all rows with the device's right operand, as the device computes it: its own rows from the block as
    staged, all others from the half blocks that go round. -/
def yT (c : Dev nD) (x : S4096x1024.Idx) : F .f32 :=
  if (x 0 : ℕ) / 512 = c.val then
    k0_pay3 (xs m c) (ws m c) (ix2 (⟨(x 0 : ℕ) % 512, Nat.mod_lt _ (by decide)⟩ : Fin 512) (x 1))
  else
    blk (chunk m (decide ((x 0 : ℕ) % 512 / 256 = 1)) (rowDev x)) (ws m c)
      (ix2 (⟨(x 0 : ℕ) % 256, Nat.mod_lt _ (by decide)⟩ : Fin 256) (x 1))
theorem yT_of (c : Dev nD) (x : S4096x1024.Idx) (d : Bool) (b : Dev nD) (hne : b.val ≠ c.val) (hq : (x 0 : ℕ) / 512 = b.val)
    (hd : decide ((x 0 : ℕ) % 512 / 256 = 1) = d) :
    yT m c x = blk (chunk m d b) (ws m c) (ix2 (⟨(x 0 : ℕ) % 256, Nat.mod_lt _ (by decide)⟩ : Fin 256) (x 1)) := by
  subst hd
  obtain rfl : b = rowDev x := Fin.ext hq.symm
  exact if_neg hne
theorem yT_own (c : Dev nD) (x : S4096x1024.Idx) (hq : (x 0 : ℕ) / 512 = c.val) :
    yT m c x = k0_pay3 (xs m c) (ws m c) (ix2 (⟨(x 0 : ℕ) % 512, Nat.mod_lt _ (by decide)⟩ : Fin 512) (x 1)) := if_pos hq
/-- At which store a row is filled. -/
def ordOf (c : Dev nD) (x : S4096x1024.Idx) : ℕ :=
  if (x 0 : ℕ) % 512 / 256 = 0 then 2 * ((c.val + 8 - (x 0 : ℕ) / 512) % 8) - 1 else 2 * (((x 0 : ℕ) / 512 + 8 - c.val) % 8)
def OutOK (c : Dev nD) (n : ℕ) (f : Vec F S4096x1024 .f32) : Prop := ∀ x, ordOf c x < n → f x = yT m c x
/-- The output after `n` stores. -/
def outE (n : ℕ) (c : Dev nD) : sProp 𝕄 := iprop(∃ f, ⌜OutOK m c n f⌝ ∗ ((c : Thread nD τ).loc cc0_stg2_0 ↦{fullShare} f))

theorem ord_lt (c : Dev nD) (x : S4096x1024.Idx) : ordOf c x < 15 := by unfold ordOf; split <;> omega
theorem outE_done (c : Dev nD) : outE m 15 c ⊢ ((c : Thread nD τ).loc cc0_stg2_0 ↦{fullShare} yT m c : sProp 𝕄) := by
  unfold outE
  iintro ⟨%f, %hf, H⟩
  rw [show f = yT m c from funext fun x => hf x (ord_lt c x)]
  iexact H

theorem ld_o (n : ℕ) (c : Dev nD) {r : LoadRect S4096x1024} {hl : (oM : Memref sig .tc .vmem S4096x1024 .f32).view.LoadsAt r}
    {k : (r.shape.Idx → Elt F .f32) → Prog (TpuEff nD τ sig (Elt F) Λ₀ .tc) α} {Q : α → sProp (MT nD τ sig ℕ (Elt F) ℕ UU ℕ)} :
    outE m n c ⊢ iprop((∀ v, outE m n c -∗ Run c (k v) Q) -∗ Run c (.op (.load oM r hl) k) Q) := by
  unfold outE
  iintro ⟨%f, %hf, H⟩ Hk
  iapply (wp_load 𝒱₀ (c : Thread nD τ) none Set.univ (m := oM) (Finset.subset_univ _)) $$ H; iintro H
  iapply Hk; iexists f
  isplitr
  · ipureintro; exact hf
  · iexact H

/-- A store of some rows' values. -/
theorem st_o {n n' : ℕ} (c : Dev nD) {off sz : Fin 2 → ℕ} {inb : ∀ a, off a + sz a ≤ S4096x1024.size a} {w : (Rect.unit (s := S4096x1024) off sz inb).shape.Idx → Elt F .f32}
    (hin : ∀ (x : S4096x1024.Idx) (h : ∀ a, off a ≤ x a ∧ (x a : ℕ) < off a + sz a), w (inside x h) = yT m c x)
    (hout : ∀ x : S4096x1024.Idx, (¬ ∀ a, off a ≤ x a ∧ (x a : ℕ) < off a + sz a) → ordOf c x < n' → ordOf c x < n)
    {hx : ((oM : Memref sig .tc .vmem S4096x1024 .f32).access (Rect.unit (s := S4096x1024) off sz inb)).Stores Finset.univ} {hm}
    {k : PUnit → Prog (TpuEff nD τ sig (Elt F) Λ₀ .tc) α} {Q : α → sProp (MT nD τ sig ℕ (Elt F) ℕ UU ℕ)} :
    outE m n c ⊢ iprop((outE m n' c -∗ Run c (k ⟨⟩) Q)
      -∗ Run c (.op (.store oM (Rect.unit (s := S4096x1024) off sz inb) w Finset.univ hx hm) k) Q) := by
  unfold outE
  iintro ⟨%f, %hf, H⟩ Hk
  iapply (wp_store 𝒱₀ (c : Thread nD τ) none Set.univ (m := oM) (r := Rect.unit (s := S4096x1024) off sz inb) (Mk := Finset.univ) (Finset.subset_univ _)) $$ H
  iintro H
  iapply Hk
  iexists _
  isplitr
  rotate_left
  · iexact H
  · ipureintro
    intro x hx'
    by_cases h : ∀ a, off a ≤ x a ∧ (x a : ℕ) < off a + sz a
    · exact (write_in cc0_stg2_0 inb f w x h).trans (hin x h)
    · exact (write_out cc0_stg2_0 inb f w x h).trans (hf x (hout x h hx'))

theorem rows2 {o a b : ℕ} {sz : Fin 2 → ℕ} {x : S4096x1024.Idx} (hsz : sz = ![a, 1024]) :
    (∀ i, (![o, 0] : Fin 2 → ℕ) i ≤ x i ∧ (x i : ℕ) < (![o, 0] : Fin 2 → ℕ) i + sz i) ↔ o ≤ (x 0 : ℕ) ∧ (x 0 : ℕ) < o + a := by
  subst hsz
  constructor
  · intro h; exact h 0
  · intro h i
    match i with
    | ⟨0, _⟩ => exact h
    | ⟨1, _⟩ => exact ⟨Nat.zero_le _, by have := (x 1).isLt; show (x 1 : ℕ) < 0 + 1024; rw [Nat.zero_add]; exact this⟩

/-- The store of the device's own rows. -/
theorem st_own (c : Dev nD) {off : Fin 2 → ℕ} (ho : off = ![512 * c.val, 0]) {inb} {w : Vec F S512x1024 .f32} (hw : w = k0_pay3 (xs m c) (ws m c))
    {hx : ((oM : Memref sig .tc .vmem S4096x1024 .f32).access (Rect.unit (s := S4096x1024) off S512x1024.size inb)).Stores Finset.univ} {hm}
    {k : PUnit → Prog (TpuEff nD τ sig (Elt F) Λ₀ .tc) α} {Q : α → sProp (MT nD τ sig ℕ (Elt F) ℕ UU ℕ)} :
    outE m 0 c ⊢ iprop((outE m 1 c -∗ Run c (k ⟨⟩) Q)
      -∗ Run c (.op (.store oM (Rect.unit (s := S4096x1024) off S512x1024.size inb) w Finset.univ hx hm) k) Q) := by
  subst ho; subst hw
  refine st_o m c (fun x h => ?_) (fun x h hn => ?_)
  · have h0 := h 0
    change 512 * c.val ≤ (x 0 : ℕ) ∧ (x 0 : ℕ) < 512 * c.val + 512 at h0
    unfold yT; rw [if_pos (by omega)]
    congr 1
    apply Shape.idx_ext₂
    · show (x 0 : ℕ) - 512 * c.val = (x 0 : ℕ) % 512; omega
    · show (x 1 : ℕ) - 0 = x 1; omega
  · exfalso; apply h
    have h1 := (x 0).isLt; change (x 0 : ℕ) < 4096 at h1
    have hc : c.val < 8 := c.isLt
    refine (rows2 (b := 0) (a := 512) rfl).mpr ?_
    unfold ordOf at hn
    split at hn <;> omega

/-- The store of a half block's rows at hop `h`. -/
theorem st_hop (d : Bool) {h : ℕ} (h1 : 1 ≤ h) (h7 : h ≤ 7) (c : Dev nD) {n n' : ℕ} (hn : n = if d then 2 * h else 2 * h - 1) (hn' : n' = n + 1)
    {off : Fin 2 → ℕ} (ho : off = ![512 * (orig d h c).val + (if d then 256 else 0), 0]) {inb} {w : Vec F S256x1024 .f32}
    (hw : w = blk (chunk m d (orig d h c)) (ws m c))
    {hx : ((oM : Memref sig .tc .vmem S4096x1024 .f32).access (Rect.unit (s := S4096x1024) off S256x1024.size inb)).Stores Finset.univ} {hm}
    {k : PUnit → Prog (TpuEff nD τ sig (Elt F) Λ₀ .tc) α} {Q : α → sProp (MT nD τ sig ℕ (Elt F) ℕ UU ℕ)} :
    outE m n c ⊢ iprop((outE m n' c -∗ Run c (k ⟨⟩) Q)
      -∗ Run c (.op (.store oM (Rect.unit (s := S4096x1024) off S256x1024.size inb) w Finset.univ hx hm) k) Q) := by
  subst ho; subst hw; subst hn'
  have hc : c.val < 8 := c.isLt
  refine st_o m c (fun x hi => ?_) (fun x hi hn' => ?_)
  · have h0 := hi 0
    have hb : (orig d h c).val < 8 := (orig d h c).isLt
    have hne : (orig d h c).val ≠ c.val := by unfold orig; rw [sh_val]; cases d <;> simp only [Bool.false_eq_true, if_true, if_false] <;> omega
    change 512 * (orig d h c).val + (if d then 256 else 0) ≤ (x 0 : ℕ) ∧ (x 0 : ℕ) < 512 * (orig d h c).val + (if d then 256 else 0) + 256 at h0
    have hq : (x 0 : ℕ) / 512 = (orig d h c).val := by cases d <;> simp only [Bool.false_eq_true, if_true, if_false] at h0 <;> omega
    have hd : decide ((x 0 : ℕ) % 512 / 256 = 1) = d := by
      cases d
      · simp only [Bool.false_eq_true, if_false] at h0; exact decide_eq_false (by omega)
      · simp only [if_true] at h0; exact decide_eq_true (by omega)
    refine Eq.trans ?_ (yT_of m c x d (orig d h c) hne hq hd).symm
    congr 1
    apply Shape.idx_ext₂
    · show (x 0 : ℕ) - (512 * (orig d h c).val + (if d then 256 else 0)) = (x 0 : ℕ) % 256
      cases d <;> simp only [Bool.false_eq_true, if_true, if_false] at h0 ⊢ <;> omega
    · show (x 1 : ℕ) - 0 = x 1; omega
  · by_contra hc'
    apply hi
    have hx1 := (x 0).isLt; change (x 0 : ℕ) < 4096 at hx1
    refine (rows2 (b := 0) (a := 256) rfl).mpr ?_
    have he : ordOf c x = n := by omega
    subst hn
    unfold orig; rw [sh_val]
    unfold ordOf at he
    cases d <;> simp only [Bool.false_eq_true, if_true, if_false] at he ⊢ <;> split at he <;> omega

/-! ## The output: quantised block by block -/

/-- Block `k` of the product, and of its quantisation with the two factors. -/
def yBlk (c : Dev nD) (k : ℕ) : Vec F S512x1024 .f32 := fun j => yT m c (ix2 (⟨(512 * k + (j 0 : ℕ)) % 4096, Nat.mod_lt _ (by decide)⟩ : Fin 4096) (j 1))
/-- Every device's maximum, one row each. -/
def axC : Vec F S8x128 .f32 := fun x => amx m (x 0) 7
def zT (c : Dev nD) (x : S4096x1024.Idx) : F .f32 :=
  k0_pay1 (k0_pay35 (axC m)) (k0_pay36 (axC m)) (yBlk m c ((x 0 : ℕ) / 512)) (ix2 (⟨(x 0 : ℕ) % 512, Nat.mod_lt _ (by decide)⟩ : Fin 512) (x 1))
/-- The output with its first `k` blocks quantised. -/
def quE (k : ℕ) (c : Dev nD) : sProp 𝕄 :=
  (c : Thread nD τ).loc cc0_stg2_0 ↦{fullShare} (fun x : S4096x1024.Idx => if (x 0 : ℕ) / 512 < k then zT m c x else yT m c x)

theorem quE_start (c : Dev nD) : outE m 15 c ⊢ quE m 0 c := by
  refine BIBase.Entails.trans (outE_done m c) ?_
  unfold quE
  rw [show (fun x : S4096x1024.Idx => if (x 0 : ℕ) / 512 < 0 then zT m c x else yT m c x) = yT m c from
    funext fun x => if_neg (Nat.not_lt_zero _)]
theorem quE_done (c : Dev nD) : quE m 8 c ⊢ ((c : Thread nD τ).loc cc0_stg2_0 ↦{fullShare} zT m c : sProp 𝕄) := by
  unfold quE
  rw [show (fun x : S4096x1024.Idx => if (x 0 : ℕ) / 512 < 8 then zT m c x else yT m c x) = zT m c from
    funext fun x => if_pos (by have h1 := (x 0).isLt; change (x 0 : ℕ) < 4096 at h1; omega)]

theorem ld_q (k₀ : ℕ) (hk : k₀ < 8) (c : Dev nD) {off : Fin 2 → ℕ} (ho : off = ![512 * k₀, 0]) {inb}
    {hl : (oM : Memref sig .tc .vmem S4096x1024 .f32).view.LoadsAt (Rect.unit (s := S4096x1024) off S512x1024.size inb).toLoadRect}
    {k : Vec F S512x1024 .f32 → Prog (TpuEff nD τ sig (Elt F) Λ₀ .tc) α} {Q : α → sProp (MT nD τ sig ℕ (Elt F) ℕ UU ℕ)} :
    quE m k₀ c ⊢ iprop((quE m k₀ c -∗ Run c (k (yBlk m c k₀)) Q)
      -∗ Run c (.op (.load oM (Rect.unit (s := S4096x1024) off S512x1024.size inb).toLoadRect hl) k) Q) := by
  subst ho
  unfold quE
  iintro H Hk
  iapply (wp_load 𝒱₀ (c : Thread nD τ) none Set.univ (m := oM) (Finset.subset_univ _)) $$ H; iintro H
  have e : (oM : Memref sig .tc .vmem S4096x1024 .f32).view.readAt (Elt F) (Rect.unit (s := S4096x1024) ![512 * k₀, 0] S512x1024.size inb).toLoadRect
      (fun x : S4096x1024.Idx => if (x 0 : ℕ) / 512 < k₀ then zT m c x else yT m c x) = yBlk m c k₀ := by
    funext j
    show (if ((Rect.unit (s := S4096x1024) ![512 * k₀, 0] S512x1024.size inb).emb j 0 : ℕ) / 512 < k₀ then _ else yT m c ((Rect.unit (s := S4096x1024) ![512 * k₀, 0] S512x1024.size inb).emb j)) = _
    have e0 : ((Rect.unit (s := S4096x1024) ![512 * k₀, 0] S512x1024.size inb).emb j 0 : ℕ) = 512 * k₀ + j 0 := unit_emb j 0
    have e1 : ((Rect.unit (s := S4096x1024) ![512 * k₀, 0] S512x1024.size inb).emb j 1 : ℕ) = 0 + j 1 := unit_emb j 1
    have hj := (j 0).isLt; change (j 0 : ℕ) < 512 at hj
    rw [if_neg (by rw [e0]; omega)]
    unfold yBlk
    congr 1
    apply Shape.idx_ext₂
    · rw [e0]; show _ = (512 * k₀ + (j 0 : ℕ)) % 4096; omega
    · rw [e1]; show _ = (j 1 : ℕ); omega
  rw [e]
  iapply Hk; iexact H

theorem st_q (k₀ k₁ : ℕ) (h1 : k₁ = k₀ + 1) (hk : k₀ < 8) (c : Dev nD) {off : Fin 2 → ℕ} (ho : off = ![512 * k₀, 0]) {inb} {w : Vec F S512x1024 .f32}
    (hw : w = k0_pay1 (k0_pay35 (axC m)) (k0_pay36 (axC m)) (yBlk m c k₀))
    {hx : ((oM : Memref sig .tc .vmem S4096x1024 .f32).access (Rect.unit (s := S4096x1024) off S512x1024.size inb)).Stores Finset.univ} {hm}
    {k : PUnit → Prog (TpuEff nD τ sig (Elt F) Λ₀ .tc) α} {Q : α → sProp (MT nD τ sig ℕ (Elt F) ℕ UU ℕ)} :
    quE m k₀ c ⊢ iprop((quE m k₁ c -∗ Run c (k ⟨⟩) Q)
      -∗ Run c (.op (.store oM (Rect.unit (s := S4096x1024) off S512x1024.size inb) w Finset.univ hx hm) k) Q) := by
  subst ho; subst hw; subst h1
  unfold quE
  iintro H Hk
  iapply (wp_store 𝒱₀ (c : Thread nD τ) none Set.univ (m := oM) (r := Rect.unit (s := S4096x1024) ![512 * k₀, 0] S512x1024.size inb) (Mk := Finset.univ) (Finset.subset_univ _)) $$ H
  iintro H
  have e : ((oM : Memref sig .tc .vmem S4096x1024 .f32).access (Rect.unit (s := S4096x1024) ![512 * k₀, 0] S512x1024.size inb)).write (Elt F)
      (fun x : S4096x1024.Idx => if (x 0 : ℕ) / 512 < k₀ then zT m c x else yT m c x) (k0_pay1 (k0_pay35 (axC m)) (k0_pay36 (axC m)) (yBlk m c k₀)) Finset.univ
      = (fun x : S4096x1024.Idx => if (x 0 : ℕ) / 512 < k₀ + 1 then zT m c x else yT m c x) := by
    funext x
    by_cases h : ∀ a, (![512 * k₀, 0] : Fin 2 → ℕ) a ≤ x a ∧ (x a : ℕ) < (![512 * k₀, 0] : Fin 2 → ℕ) a + S512x1024.size a
    · refine (write_in cc0_stg2_0 inb _ _ x h).trans ?_
      have h0 := (rows2 (b := 0) (a := 512) rfl).mp h
      have hq : (x 0 : ℕ) / 512 = k₀ := by omega
      show _ = if (x 0 : ℕ) / 512 < k₀ + 1 then zT m c x else yT m c x
      rw [if_pos (by omega)]
      unfold zT; rw [hq]
      congr 1
      apply Shape.idx_ext₂
      · show (x 0 : ℕ) - 512 * k₀ = (x 0 : ℕ) % 512; omega
      · show (x 1 : ℕ) - 0 = x 1; omega
    · refine (write_out cc0_stg2_0 inb _ _ x h).trans ?_
      have h0 := (not_congr (rows2 (b := 0) (a := 512) rfl)).mp h
      show (if (x 0 : ℕ) / 512 < k₀ then zT m c x else yT m c x) = if (x 0 : ℕ) / 512 < k₀ + 1 then zT m c x else yT m c x
      by_cases h2 : (x 0 : ℕ) / 512 < k₀
      · rw [if_pos h2, if_pos (by omega)]
      · rw [if_neg h2, if_neg (by omega)]
  rw [e]
  iapply Hk; iexact H

end Cert.Ring8

end
-- ==== Proof.Hops.lean ====
/-
The steps of a hop and of the exchange of maxima, in the form in which the body's proof takes them.
-/
module

public import proofs.«01_k».proof.Proof.Mem

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ) (K : Dev nD × KI → ℕ)
variable {α : Type}

/-! ## What a device holds for each hop -/

/-- For its transfer: the two duties and the place of its send cell. -/
def hopT (d : Bool) (h : ℕ) (c : Dev nD) : sProp 𝕄 :=
  iprop(dutyTok ER (dcell (jS d) h c) 0 false ∗ dutyTok ER (dcell (jR d) h (nx d c)) 0 false ∗ atPos ER (dcell (jS d) h c) 0 ∅ 0)
/-- For the wait on its transfer once started. -/
def hopW (d : Bool) (h : ℕ) (c : Dev nD) : sProp 𝕄 :=
  iprop(cred (tallyAt (dcell (jS d) h c) 0 (amtD (jS d))) ∗ atPos ER (dcell (jS d) h c) 0 ∅ 0)
/-- For the wait on what lands. -/
def hopR (d : Bool) (h : ℕ) (c : Dev nD) : sProp 𝕄 :=
  iprop(cred (tallyAt (dcell (jR d) h c) 0 (amtD (jR d))) ∗ atPos ER (dcell (jR d) h c) 0 ∅ 0)
/-- The rows of maxima on their way before hop `h` is sent, and the row that the device keeps of those that hop `h` brought. -/
def trav (d : Bool) (h : ℕ) (c : Dev nD) : sProp 𝕄 :=
  match d with
  | true => iprop(emp)
  | false => rowsFrom (F := F) (orig false h c) (7 - h)
def got (d : Bool) (h : ℕ) (c : Dev nD) : sProp 𝕄 :=
  match d with
  | true => iprop(emp)
  | false => rowAny (F := F) (sh (7 - h) c) c

theorem carry_of (d : Bool) (h : ℕ) (c : Dev nD) :
    iprop(reached ER (ccell d c) (h - 1) ∗ trav (F := F) d h c) ⊢ carry (F := F) d h (nx d c) := by
  unfold carry trav
  rw [pv_nx]
  cases d
  · simp only [Bool.false_eq_true, if_false]; rw [orig_nx]
  · simp only [if_true]; exact .rfl

theorem trav_of (d : Bool) {h g : ℕ} (hg : g = h + 1) (hh : h < 7) (c : Dev nD) :
    (if d then iprop(emp) else rowsFrom (F := F) (orig false (h + 1) c) (7 - h)) ⊢ iprop(trav (F := F) d g c ∗ got (F := F) d h c) := by
  subst hg
  cases d
  · simp only [Bool.false_eq_true, if_false]
    unfold trav got
    obtain ⟨n, hn⟩ : ∃ n, 7 - h = n + 1 := ⟨6 - h, by omega⟩
    rw [hn, show 7 - (h + 1) = n by omega]
    show iprop(rowAny (F := F) (orig false (h + 1) c) (sh (7 - n) (orig false (h + 1) c)) ∗ rowsFrom (orig false (h + 1) c) n) ⊢ _
    rw [show sh (7 - n) (orig false (h + 1) c) = c from by
        show sh (7 - n) (sh (7 * (h + 1)) c) = c
        exact sh_back (by omega) c,
      show (orig false (h + 1) c : Dev nD) = sh (n + 1) c from by
        show sh (7 * (h + 1)) c = sh (n + 1) c
        exact sh_congr (by omega) c]
    iintro ⟨H1, H2⟩
    isplitl [H2] <;> iassumption
  · simp only [if_true]
    unfold trav got
    iintro H
    isplitl [H]
    · iexact H
    · iempintro

theorem srcC_slot (d : Bool) (c : Dev nD) (h : ℕ) :
    srcC m d c (h + 1) ⊢ slotC d (slotOf (h + 1)) fullShare.left c (chunk m d (orig d (h + 1) c)) := Entails.of_eq rfl

/-! ## A hop's transfer and waits -/

theorem send_hop (d : Bool) {h : ℕ} (hh : h < 7) {s : Fin 2} (hs : s = slotOf (h + 1)) {r : ℕ} (hr : r = h - 1) {n n' : ℕ} (hn' : n' = n + 1) (c c' : Dev nD) (hc : c' = nx d c)
    (hd : ∀ c, owe n c = owe (n + 1) c + tallyAt (dcell (jR d) h (nx d c)) 0 Nb)
    {src dst : Memref sig .tc .vmem S256x4096 .bf16} (hsM : src = srcM d h) (hdM : dst = slotM d s)
    {sS sR : DmaSem sig} (hS : sS = dq (jS d) h) (hR : sR = dq (jR d) h)
    {hsc : (dst : Memref sig (Dev.tc c' : Thread nD τ).2.kind .vmem S256x4096 .bf16).view.ref.isScScratch = false}
    {hsrc : src.view.WordExact} {hdst : dst.view.WordExact}
    {hsem : DmaTarget.Typed .vmem (.dma sR) (.remote (Dev.tc c' : Thread nD τ) dst (.dma sS) hsc)}
    {k : PUnit → Prog (TpuEff nD τ sig (Elt F) Λ₀ .tc) α} {Q : α → sProp (MT nD τ sig ℕ (Elt F) ℕ UU ℕ)} :
    env m K ⊢ iprop(srcC m d c h -∗ slotAny d s (nx d c) -∗ reached ER (ccell d c) r -∗ trav d h c -∗ hopT d h c -∗ owesE n c
      -∗ ((hopW d h c ∗ owesE n' c) -∗ Run c (k ⟨⟩) Q)
      -∗ Run c (.op (.enqueueDma src (.remote (Dev.tc c' : Thread nD τ) dst (.dma sS) hsc) (.dma sR) hsrc hdst hsem) k) Q) := by
  subst hn'; subst hs; subst hr
  unfold hopT hopW
  iintro #He Hsrc Hdst Hr Hv ⟨Ht1, Ht2, Hat⟩ HO Hk
  iapply (send_h m K d hh c c' hc hd hsM hdM hS hR) $$ He Hsrc Hdst [Hr Hv] Ht1 Ht2 HO
  · iapply (carry_of d h c); isplitl [Hr] <;> iassumption
  iintro ⟨Hc, HO⟩
  iapply Hk
  isplitl [Hc Hat]
  · isplitl [Hc] <;> iassumption
  · iexact HO

/-- The wait for the first hop's transfer, which gives the half of the cast block back, -/
theorem wait_S0 (d : Bool) {n : ℕ} (hab : above n (.dma (dq (jS d) 0)) 0 = true) (c : Dev nD)
    {s₁ s₂ : Shape} {e₁ e₂ : EltTy} {sp₁ sp₂ : Space} {sem : DmaSem sig} (hs : sem = dq (jS d) 0)
    {src : Memref sig .tc sp₁ s₁ e₁} {dst : Memref sig .tc sp₂ s₂ e₂} {hsrc : src.view.WordExact} {hdst : dst.view.WordExact}
    (hN : dst.view.dmaCredit = amtD (jS d)) {k : PUnit → Prog (TpuEff nD τ sig (Elt F) Λ₀ .tc) α} {Q : α → sProp (MT nD τ sig ℕ (Elt F) ℕ UU ℕ)} :
    env m K ⊢ iprop(hopW d 0 c -∗ owesE n c
      -∗ ((owesE n c ∗ semVal (dcell (jS d) 0 c) 0 ∗ srcC m d c 0) -∗ Run c (k ⟨⟩) Q)
      -∗ Run c (.op (.waitDma2 sem src dst hsrc hdst) k) Q) := by
  unfold hopW
  iintro #He ⟨Hc, Hat⟩ HO Hk
  iapply (wait_d m K (jS_lt d) (by decide) hab c hs hN) $$ He Hc HO Hat
  rw [pay_S]
  iexact Hk

/-- and that for a later one, after which the slot is free. -/
theorem wait_S (d : Bool) {h g : ℕ} (hg : g = h + 1) (hh : g < 7) {s : Fin 2} (hsl : s = slotOf g) {n : ℕ} (hab : above n (.dma (dq (jS d) g)) 0 = true) (c : Dev nD)
    {s₁ s₂ : Shape} {e₁ e₂ : EltTy} {sp₁ sp₂ : Space} {sem : DmaSem sig} (hs : sem = dq (jS d) g)
    {src : Memref sig .tc sp₁ s₁ e₁} {dst : Memref sig .tc sp₂ s₂ e₂} {hsrc : src.view.WordExact} {hdst : dst.view.WordExact}
    (hN : dst.view.dmaCredit = amtD (jS d)) {k : PUnit → Prog (TpuEff nD τ sig (Elt F) Λ₀ .tc) α} {Q : α → sProp (MT nD τ sig ℕ (Elt F) ℕ UU ℕ)} :
    env m K ⊢ iprop(hopW d g c -∗ slotC d s fullShare.right c (chunk m d (orig d g c)) -∗ owesE n c
      -∗ ((owesE n c ∗ semVal (dcell (jS d) g c) 0 ∗ slotAny d s c) -∗ Run c (k ⟨⟩) Q)
      -∗ Run c (.op (.waitDma2 sem src dst hsrc hdst) k) Q) := by
  subst hg; subst hsl
  unfold hopW
  iintro #He ⟨Hc, Hat⟩ Hr HO Hk
  iapply (wait_d m K (jS_lt d) hh hab c hs hN) $$ He Hc HO Hat
  rw [pay_S]
  iintro ⟨HO, Hz, Hl⟩
  iapply Hk
  isplitl [HO]
  · iexact HO
  isplitl [Hz]
  · iexact Hz
  iapply (slot_join d (slotOf (h + 1)) c (chunk m d (orig d (h + 1) c)) (chunk m d (orig d (h + 1) c)))
  isplitl [Hl]
  · iapply (srcC_slot m d c h); iexact Hl
  · iexact Hr

/-- The wait for what hop `h` lands: the half block (at two half shares), that the receiver's credit cell has reached the round of the
    slot just filled, and the rows of maxima. -/
theorem wait_R (d : Bool) {h g : ℕ} (hg : g = h + 1) (hh : h < 7) {s : Fin 2} (hsl : s = slotOf g) {r : ℕ} (hr : r = h - 1) {n : ℕ} (hab : above n (.dma (dq (jR d) h)) 0 = true) (c : Dev nD)
    {s₁ s₂ : Shape} {e₁ e₂ : EltTy} {sp₁ sp₂ : Space} {sem : DmaSem sig} (hs : sem = dq (jR d) h)
    {src : Memref sig .tc sp₁ s₁ e₁} {dst : Memref sig .tc sp₂ s₂ e₂} {hsrc : src.view.WordExact} {hdst : dst.view.WordExact}
    (hN : dst.view.dmaCredit = amtD (jR d)) {k : PUnit → Prog (TpuEff nD τ sig (Elt F) Λ₀ .tc) α} {Q : α → sProp (MT nD τ sig ℕ (Elt F) ℕ UU ℕ)} :
    env m K ⊢ iprop(hopR d h c -∗ owesE n c
      -∗ ((owesE n c ∗ semVal (dcell (jR d) h c) 0 ∗ srcC m d c g ∗ slotC d s fullShare.right c (chunk m d (orig d g c))
            ∗ reached ER (ccell d (pv d c)) r ∗ trav d g c ∗ got d h c) -∗ Run c (k ⟨⟩) Q)
      -∗ Run c (.op (.waitDma2 sem src dst hsrc hdst) k) Q) := by
  subst hr; subst hsl
  unfold hopR
  iintro #He ⟨Hc, Hat⟩ HO Hk
  iapply (wait_d m K (jR_lt d) hh hab c hs hN) $$ He Hc HO Hat
  rw [pay_R]
  unfold landC carry
  iintro ⟨HO, Hz, Hl, Hr, Hv⟩
  ihave Hl := (slot_split d _ c _) $$ Hl
  icases Hl with ⟨Hl1, Hl2⟩
  ihave Hv := (trav_of d hg hh c) $$ Hv
  icases Hv with ⟨Hv, Hg⟩
  iapply Hk
  isplitl [HO]
  · iexact HO
  isplitl [Hz]
  · iexact Hz
  subst hg
  isplitl [Hl1]
  · rw [show srcC m d c (h + 1) = slotC d (slotOf (h + 1)) fullShare.left c (chunk m d (orig d (h + 1) c)) from rfl]; iexact Hl1
  isplitl [Hl2]
  · iexact Hl2
  isplitl [Hr]
  · iexact Hr
  isplitl [Hv] <;> iassumption

/-! ## Credits -/

def crT (d : Bool) (r : ℕ) (c : Dev nD) : sProp 𝕄 := dutyTok ER (ccell d (pv d c)) r false
def crW (d : Bool) (r : ℕ) (c : Dev nD) : sProp 𝕄 := cred (tallyAt (ccell d c) r 1)
def crP (d : Bool) (r : ℕ) (c : Dev nD) : sProp 𝕄 := atPos ER (ccell d c) r ∅ 0

theorem sig_cr (d : Bool) {r : ℕ} (hr : r < 5) {s : Fin 2} (hsl : s = slotOf (r + 1)) {n n' : ℕ} (hn' : n' = n + 1) (c c' : Dev nD) (hc : c' = pv d c)
    (hd : ∀ c, owe n c = owe (n + 1) c + tallyAt (ccell d (pv d c)) r 1)
    {sem : Sem sig} (hs : sem = crS d) {w : ℤ} (hw : w = 1) {k : PUnit → Prog (TpuEff nD τ sig (Elt F) Λ₀ .tc) α} {Q : α → sProp (MT nD τ sig ℕ (Elt F) ℕ UU ℕ)} :
    env m K ⊢ iprop(reached ER (ccell d (pv d c)) r -∗ crT d r c -∗ slotAny d s c -∗ owesE n c
      -∗ (owesE n' c -∗ Run c (k ⟨⟩) Q)
      -∗ Run c (.op (.semSignal (c' : Thread nD τ) sem w) k) Q) := by
  subst hn'; subst hsl
  exact signal_c m K d hr c c' hc hd hs hw

theorem wait_cr (d : Bool) {r g : ℕ} (hg : g = r + 1) (hr : r < 5) {s : Fin 2} (hsl : s = slotOf g) {n : ℕ} (hab : above n (.reg (crS d)) r = true) (c : Dev nD)
    {sem : Sem sig} (hs : sem = crS d) {w : ℤ} (hw : w = 1) {k : PUnit → Prog (TpuEff nD τ sig (Elt F) Λ₀ .tc) α} {Q : α → sProp (MT nD τ sig ℕ (Elt F) ℕ UU ℕ)} :
    env m K ⊢ iprop(crW d r c -∗ owesE n c -∗ crP d r c
      -∗ ((owesE n c ∗ crP d g c ∗ reached ER (ccell d c) g ∗ slotAny d s (nx d c)) -∗ Run c (k ⟨⟩) Q)
      -∗ Run c (.op (.semWait sem w) k) Q) := by
  subst hg; subst hsl
  exact wait_c m K d hr hab c hs hw

/-! ## The barrier -/

def barT (d : Bool) (c : Dev nD) : sProp 𝕄 := dutyTok ER (bcell (pv d c)) 0 d
def barW (c : Dev nD) : sProp 𝕄 := iprop(cred (tallyAt (bcell c) 0 2) ∗ atPos ER (bcell c) 0 ∅ 0)

theorem sig_bar (d : Bool) {n n' : ℕ} (hn' : n' = n + 1) (c c' : Dev nD) (hc : c' = pv d c)
    (hd : ∀ c, owe n c = owe (n + 1) c + tallyAt (bcell (pv d c)) 0 1)
    {sem : Sem sig} (hs : sem = barS) {w : ℤ} (hw : w = 1) {k : PUnit → Prog (TpuEff nD τ sig (Elt F) Λ₀ .tc) α} {Q : α → sProp (MT nD τ sig ℕ (Elt F) ℕ UU ℕ)} :
    env m K ⊢ iprop(barT d c -∗ slotAny d 0 c -∗ slotAny d 1 c -∗ owesE n c
      -∗ (owesE n' c -∗ Run c (k ⟨⟩) Q)
      -∗ Run c (.op (.semSignal (c' : Thread nD τ) sem w) k) Q) := by
  subst hn'
  exact signal_b m K d c c' hc hd hs hw

theorem wait_bar {n : ℕ} (hab : above n (.reg barS) 0 = true) (c : Dev nD)
    {sem : Sem sig} (hs : sem = barS) {w : ℤ} (hw : w = 2) {k : PUnit → Prog (TpuEff nD τ sig (Elt F) Λ₀ .tc) α} {Q : α → sProp (MT nD τ sig ℕ (Elt F) ℕ UU ℕ)} :
    env m K ⊢ iprop(barW c -∗ owesE n c
      -∗ ((owesE n c ∗ semVal (bcell c) 0 ∗ slotAny false 0 (nx false c) ∗ slotAny false 1 (nx false c) ∗ slotAny true 0 (nx true c) ∗ slotAny true 1 (nx true c)
            ∗ reached ER (ccell false c) 0 ∗ reached ER (ccell true c) 0) -∗ Run c (k ⟨⟩) Q)
      -∗ Run c (.op (.semWait sem w) k) Q) := by
  unfold barW
  iintro #He ⟨Hc, Hat⟩ HO Hk
  ihave #Hr1 := (env_reached m K (c, .inl (.inr false))) $$ He
  ihave #Hr2 := (env_reached m K (c, .inl (.inr true))) $$ He
  iapply (wait_b m K hab c hs hw) $$ He Hc HO Hat
  unfold barPay
  iintro ⟨HO, Hz, ⟨H1, H2⟩, H3, H4⟩
  iapply Hk
  isplitl [HO]
  · iexact HO
  isplitl [Hz]
  · iexact Hz
  isplitl [H1]
  · iexact H1
  isplitl [H2]
  · iexact H2
  isplitl [H3]
  · iexact H3
  isplitl [H4]
  · iexact H4
  isplitr
  · iexact Hr1
  · iexact Hr2

/-! ## The exchange of maxima -/

def axT (j : ℕ) (c : Dev nD) : sProp 𝕄 :=
  iprop(dutyTok ER (dcell 4 j c) 0 false ∗ dutyTok ER (dcell 5 j (sh (j + 1) c)) 0 false ∗ atPos ER (dcell 4 j c) 0 ∅ 0)
def axW (j : ℕ) (c : Dev nD) : sProp 𝕄 := iprop(cred (tallyAt (dcell 4 j c) 0 (amtD 4)) ∗ atPos ER (dcell 4 j c) 0 ∅ 0)
def axR (j : ℕ) (c : Dev nD) : sProp 𝕄 := iprop(cred (tallyAt (dcell 5 j c) 0 (amtD 5)) ∗ atPos ER (dcell 5 j c) 0 ∅ 0)

theorem row_split (j : ℕ) (c i : Dev nD) (X : Vec F S1x128 .f32) : rowC c i (restQ j) X ⊢ iprop(rowC c i (pieceQ j) X ∗ rowC c i (restQ (j + 1)) X) := by
  show rowC c i (restQ j) X ⊢ iprop(rowC c i (restQ j).left X ∗ rowC c i (restQ j).right X)
  unfold rowC owns
  iintro ⟨%f, %hf, H⟩
  ihave H' := (pointsTo_share (PosShare.mem_left_op_right (restQ j))).1 $$ H
  icases H' with ⟨H1, H2⟩
  isplitl [H1]
  · iexists f; isplitr
    · ipureintro; exact hf
    · iexact H1
  · iexists f; isplitr
    · ipureintro; exact hf
    · iexact H2
theorem row_join (j : ℕ) (c i : Dev nD) (X : Vec F S1x128 .f32) : iprop(rowC c i (pieceQ j) X ∗ rowC c i (restQ (j + 1)) X) ⊢ rowC c i (restQ j) X :=
  owns_join c (rowM i) (restQ j) X X

theorem send_ax {j j' : ℕ} (hj' : j' = j + 1) (hj : j < 7) {g : ℕ} (hg : g = 6 - j) {n n' : ℕ} (hn' : n' = n + 1) (c c' : Dev nD) (hc : c' = sh (j + 1) c)
    (hd : ∀ c, owe n c = owe (n + 1) c + tallyAt (dcell 5 j (sh (j + 1) c)) 0 Na)
    {src dst : Memref sig .tc .vmem S1x128 .f32} (hsM : src = rowM c) (hdM : dst = rowM c)
    {sS sR : DmaSem sig} (hS : sS = dq 4 j) (hR : sR = dq 5 j)
    {hsc : (dst : Memref sig (Dev.tc c' : Thread nD τ).2.kind .vmem S1x128 .f32).view.ref.isScScratch = false}
    {hsrc : src.view.WordExact} {hdst : dst.view.WordExact}
    {hsem : DmaTarget.Typed .vmem (.dma sR) (.remote (Dev.tc c' : Thread nD τ) dst (.dma sS) hsc)}
    {k : PUnit → Prog (TpuEff nD τ sig (Elt F) Λ₀ .tc) α} {Q : α → sProp (MT nD τ sig ℕ (Elt F) ℕ UU ℕ)} :
    env m K ⊢ iprop(rowC c c (restQ j) (row m c) -∗ got false g c -∗ axT j c -∗ owesE n c
      -∗ ((axW j c ∗ rowC c c (restQ j') (row m c) ∗ owesE n' c) -∗ Run c (k ⟨⟩) Q)
      -∗ Run c (.op (.enqueueDma src (.remote (Dev.tc c' : Thread nD τ) dst (.dma sS) hsc) (.dma sR) hsrc hdst hsem) k) Q) := by
  subst hj'; subst hn'; subst hg
  unfold axT axW got
  dsimp only
  rw [show 7 - (6 - j) = j + 1 by omega]
  iintro #He Hrow Hg ⟨Ht1, Ht2, Hat⟩ HO Hk
  ihave Hs := (row_split j c c (row m c)) $$ Hrow
  icases Hs with ⟨Hp, Hrow⟩
  iapply (send_r m K hj c c' hc hd hsM hdM hS hR) $$ He Hp Hg Ht1 Ht2 HO
  iintro ⟨Hc, HO⟩
  iapply Hk
  isplitl [Hc Hat]
  · isplitl [Hc]
    · iexact Hc
    · iexact Hat
  isplitl [Hrow] <;> iassumption

theorem wait_axS {j : ℕ} (hj : j < 7) {n : ℕ} (hab : above n (.dma (dq 4 j)) 0 = true) (c : Dev nD)
    {s₁ s₂ : Shape} {e₁ e₂ : EltTy} {sp₁ sp₂ : Space} {sem : DmaSem sig} (hs : sem = dq 4 j)
    {src : Memref sig .tc sp₁ s₁ e₁} {dst : Memref sig .tc sp₂ s₂ e₂} {hsrc : src.view.WordExact} {hdst : dst.view.WordExact}
    (hN : dst.view.dmaCredit = amtD 4) {k : PUnit → Prog (TpuEff nD τ sig (Elt F) Λ₀ .tc) α} {Q : α → sProp (MT nD τ sig ℕ (Elt F) ℕ UU ℕ)} :
    env m K ⊢ iprop(axW j c -∗ owesE n c
      -∗ ((owesE n c ∗ semVal (dcell 4 j c) 0 ∗ rowC c c (pieceQ j) (row m c)) -∗ Run c (k ⟨⟩) Q)
      -∗ Run c (.op (.waitDma2 sem src dst hsrc hdst) k) Q) := by
  unfold axW
  iintro #He ⟨Hc, Hat⟩ HO Hk
  iapply (wait_d m K (j := 4) (by decide) hj hab c hs hN) $$ He Hc HO Hat
  iexact Hk
theorem wait_axR {j : ℕ} (hj : j < 7) {n : ℕ} (hab : above n (.dma (dq 5 j)) 0 = true) (c : Dev nD)
    {s₁ s₂ : Shape} {e₁ e₂ : EltTy} {sp₁ sp₂ : Space} {sem : DmaSem sig} (hs : sem = dq 5 j)
    {src : Memref sig .tc sp₁ s₁ e₁} {dst : Memref sig .tc sp₂ s₂ e₂} {hsrc : src.view.WordExact} {hdst : dst.view.WordExact}
    (hN : dst.view.dmaCredit = amtD 5) {k : PUnit → Prog (TpuEff nD τ sig (Elt F) Λ₀ .tc) α} {Q : α → sProp (MT nD τ sig ℕ (Elt F) ℕ UU ℕ)} :
    env m K ⊢ iprop(axR j c -∗ owesE n c
      -∗ ((owesE n c ∗ semVal (dcell 5 j c) 0 ∗ rowLand m j c) -∗ Run c (k ⟨⟩) Q)
      -∗ Run c (.op (.waitDma2 sem src dst hsrc hdst) k) Q) := by
  unfold axR
  iintro #He ⟨Hc, Hat⟩ HO Hk
  iapply (wait_d m K (j := 5) (by decide) hj hab c hs hN) $$ He Hc HO Hat
  iexact Hk

/-! ## The row of maxima, and the rows together -/

theorem ld_row (c : Dev nD) {off : Fin 2 → ℕ} (ho : off = k0_off7 c) {inb}
    {hl : (aM : Memref sig .tc .vmem S8x128 .f32).view.LoadsAt (Rect.unit (s := S8x128) off S1x128.size inb).toLoadRect}
    {k : Vec F S1x128 .f32 → Prog (TpuEff nD τ sig (Elt F) Λ₀ .tc) α} {Q : α → sProp (MT nD τ sig ℕ (Elt F) ℕ UU ℕ)} :
    rowAny (F := F) c c ⊢ iprop((∀ v, rowAny (F := F) c c -∗ Run c (k v) Q)
      -∗ Run c (.op (.load aM (Rect.unit (s := S8x128) off S1x128.size inb).toLoadRect hl) k) Q) := by
  subst ho
  unfold rowAny rowC owns
  iintro ⟨%X, %f, %hf, H⟩ Hk
  iapply (wp_load_rect 𝒱₀ (c : Thread nD τ) none Set.univ (m := aM) (r := rRow c) (S := (rowM c).view.set) (Finset.Subset.refl _)) $$ H; iintro H
  iapply Hk; iexists X; iexists f
  isplitr
  · ipureintro; exact hf
  · iexact H

theorem st_row (c : Dev nD) {off : Fin 2 → ℕ} (ho : off = k0_off7 c) {inb} {w : Vec F S1x128 .f32} (hw : w = row m c)
    {hx : ((aM : Memref sig .tc .vmem S8x128 .f32).access (Rect.unit (s := S8x128) off S1x128.size inb)).Stores Finset.univ} {hm}
    {k : PUnit → Prog (TpuEff nD τ sig (Elt F) Λ₀ .tc) α} {Q : α → sProp (MT nD τ sig ℕ (Elt F) ℕ UU ℕ)} :
    rowAny (F := F) c c ⊢ iprop((rowC c c (restQ 0) (row m c) -∗ Run c (k ⟨⟩) Q)
      -∗ Run c (.op (.store aM (Rect.unit (s := S8x128) off S1x128.size inb) w Finset.univ hx hm) k) Q) := by
  subst ho; subst hw
  unfold rowAny rowC owns
  iintro ⟨%X, %f, %hf, H⟩ Hk
  iapply (wp_store 𝒱₀ (c : Thread nD τ) none Set.univ (m := aM) (r := rRow c) (S := (rowM c).view.set) (Mk := Finset.univ) (Finset.Subset.refl _)) $$ H
  iintro H
  iapply Hk
  iexists _
  isplitr
  rotate_left
  · iexact H
  · ipureintro; exact View.read_write_univ _ _

theorem row_set (i : Dev nD) (x : S8x128.Idx) : x ∈ (rRow i).set ↔ (x 0 : ℕ) = i.val := by
  have ho : k0_off7 i = ![i.val, 0] := Gen.k0_off7_eq i
  rw [← Rect.map_emb_univ, Finset.mem_map]
  constructor
  · rintro ⟨j, -, rfl⟩
    have e : ((rRow i).emb j 0 : ℕ) = k0_off7 i 0 + j 0 := unit_emb j 0
    have hj := (j 0).isLt; change (j 0 : ℕ) < 1 at hj
    rw [e, ho]; show i.val + (j 0 : ℕ) = _; omega
  · intro h
    refine ⟨inside x fun a => ?_, Finset.mem_univ _, emb_inside x _⟩
    rw [ho]
    match a with
    | ⟨0, _⟩ => exact ⟨le_of_eq h.symm, by show (x 0 : ℕ) < i.val + 1; omega⟩
    | ⟨1, _⟩ => exact ⟨Nat.zero_le _, by have := (x 1).isLt; show (x 1 : ℕ) < 0 + 128; rw [Nat.zero_add]; exact this⟩
theorem row_disj (i i' : Dev nD) (h : i ≠ i') : Disjoint (rRow i).set (rRow i').set := by
  rw [Finset.disjoint_left]; intro x h1 h2
  rw [row_set] at h1 h2
  exact h (Fin.ext (h1.symm.trans h2))
theorem row_cov : (Finset.univ : Finset (Dev nD)).biUnion (fun i => (rRow i).set) = Finset.univ := by
  ext x; simp only [Finset.mem_biUnion, Finset.mem_univ, true_and, iff_true]
  exact ⟨⟨(x 0 : ℕ), (x 0).isLt⟩, (row_set _ _).mpr rfl⟩

/-- The buffer of maxima, every row in place. -/
def aE (c : Dev nD) : sProp 𝕄 := (c : Thread nD τ).loc cc0_scratch3 ↦{fullShare} axC m

theorem rows_join (c : Dev nD) : (bigSep Finset.univ fun i : Dev nD => rowC c i fullShare (row m i)) ⊢ aE m c := by
  unfold aE
  refine BIBase.Entails.trans ?_ (Entails.of_eq (owns_whole (c : Thread nD τ) cc0_scratch3 fullShare (axC m)))
  haveI : ∀ e, Nonempty (Elt F e) := fun e => inferInstance
  refine BIBase.Entails.trans (Entails.of_eq (bigSep_congr fun i _ => ?_)) (owns_of_rects (c : Thread nD τ) aM fullShare rRow (fun _ _ => rfl) row_disj row_cov (axC m))
  unfold rowC
  refine congrArg (owns (c : Thread nD τ) (rowM i) fullShare) (funext fun j => ?_)
  show amx m i 7 = amx m _ 7
  have : (rRow i).emb j 0 = i := by
    have h := (row_set i ((rRow i).emb j)).mp (Rect.map_emb_univ (rRow i) ▸ Finset.mem_map_of_mem _ (Finset.mem_univ j))
    exact Fin.ext h
  rw [this]
theorem row_any (c i : Dev nD) (X : Vec F S1x128 .f32) : rowC c i fullShare X ⊢ rowAny (F := F) c i := by
  unfold rowAny; iintro H; iexists X; iexact H
theorem rows_split (c : Dev nD) (f : Vec F S8x128 .f32) :
    ((c : Thread nD τ).loc cc0_scratch3 ↦{fullShare} f : sProp 𝕄) ⊢ bigSep Finset.univ fun i : Dev nD => rowAny (F := F) c i := by
  refine BIBase.Entails.trans (Entails.of_eq (owns_whole (c : Thread nD τ) cc0_scratch3 fullShare f).symm) ?_
  refine BIBase.Entails.trans (owns_rects (c : Thread nD τ) aM fullShare rRow (fun _ _ => rfl) row_disj row_cov f) ?_
  exact bigSep_mono fun i _ => row_any c i _

theorem ld_a (c : Dev nD) {inb} {hl : (aM : Memref sig .tc .vmem S8x128 .f32).view.LoadsAt (Rect.unit (s := S8x128) ![0, 0] S8x128.size inb).toLoadRect}
    {k : Vec F S8x128 .f32 → Prog (TpuEff nD τ sig (Elt F) Λ₀ .tc) α} {Q : α → sProp (MT nD τ sig ℕ (Elt F) ℕ UU ℕ)} :
    aE m c ⊢ iprop((aE m c -∗ Run c (k (axC m)) Q) -∗ Run c (.op (.load aM (Rect.unit (s := S8x128) ![0, 0] S8x128.size inb).toLoadRect hl) k) Q) := by
  unfold aE
  iintro H Hk
  iapply (wp_load 𝒱₀ (c : Thread nD τ) none Set.univ (m := aM) (Finset.subset_univ _)) $$ H; iintro H
  rw [show (aM : Memref sig .tc .vmem S8x128 .f32).view.readAt (Elt F) (Rect.unit (s := S8x128) ![0, 0] S8x128.size inb).toLoadRect (axC m) = axC m
    from Memref.readAt_unit_zero (Elt F) cc0_scratch3 zero2 inb (axC m)]
  iapply Hk; iexact H

end Cert.Ring8

end
-- ==== Proof.Pay.lean ====
/-
The values that pass between the kernel's pieces, in terms of the product blocks and of the running maximum.
-/
module

public import proofs.«01_k».proof.Proof.Hops

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ)

section Blocks
variable (X Y : Vec F S256x4096 .bf16) (w : Vec F S4096x1024 .f32) (a : F .f32)

theorem pay5_eq : k0_pay5 (unsq X) w = blk X w := congrArg (fun Z => blk Z w) (sq_unsq X shapeCasts_S1x256x4096_S256x4096)
theorem pay6_eq : k0_pay6 (unsq X) w = blk X w := congrArg (fun Z => blk Z w) (sq_unsq X shapeCasts_S1x256x4096_S256x4096)
theorem pay10_eq : k0_pay10 (unsq X) w = blk X w := congrArg (fun Z => blk Z w) (sq_unsq X shapeCasts_S1x256x4096_S256x4096)
theorem pay12_eq : k0_pay12 (unsq X) w = blk X w := congrArg (fun Z => blk Z w) (sq_unsq X shapeCasts_S1x256x4096_S256x4096)
theorem pay14_eq : k0_pay14 (unsq X) w = blk X w := congrArg (fun Z => blk Z w) (sq_unsq X shapeCasts_S1x256x4096_S256x4096)
theorem pay17_eq : k0_pay17 (unsq X) w = blk X w := congrArg (fun Z => blk Z w) (sq_unsq X shapeCasts_S1x256x4096_S256x4096)
theorem pay22_eq : k0_pay22 (unsq X) w = blk X w := congrArg (fun Z => blk Z w) (sq_unsq X shapeCasts_S1x256x4096_S256x4096)
theorem pay24_eq : k0_pay24 (unsq X) w = blk X w := congrArg (fun Z => blk Z w) (sq_unsq X shapeCasts_S1x256x4096_S256x4096)
theorem pay28_eq : k0_pay28 (unsq X) w = blk X w := congrArg (fun Z => blk Z w) (sq_unsq X shapeCasts_S1x256x4096_S256x4096)
theorem pay30_eq : k0_pay30 (unsq X) w = blk X w := congrArg (fun Z => blk Z w) (sq_unsq X shapeCasts_S1x256x4096_S256x4096)
theorem pay31_eq : k0_pay31 (unsq X) w = blk X w := congrArg (fun Z => blk Z w) (sq_unsq X shapeCasts_S1x256x4096_S256x4096)
theorem pay8_eq : k0_pay8 (unsq X) = X := sq_unsq X shapeCasts_S1x256x4096_S256x4096
theorem pay19_eq : k0_pay19 (unsq X) = X := sq_unsq X shapeCasts_S1x256x4096_S256x4096
theorem pay26_eq : k0_pay26 (unsq X) = X := sq_unsq X shapeCasts_S1x256x4096_S256x4096
theorem pay9_eq : k0_pay9 X w = blk X w := rfl
theorem pay20_eq : k0_pay20 X w = blk X w := rfl
theorem pay27_eq : k0_pay27 X w = blk X w := rfl

/-- A running maximum joined with the greatest element of one block. -/
theorem join_one {Z Z' : FVec F S256x1024 .f32} (h : Z = Z') : Scalar.maximumf a (mx Z) = Scalar.maximumf a (mx Z') := congrArg _ (congrArg mx h)

theorem step1 : k0_pay7 a (blk X w) (unsq Y) w = mxStep a X Y w := join_one (Scalar.maximumf a (mx (blk X w))) (pay6_eq Y w)
theorem step2 : k0_pay11 a X w (unsq Y) w = mxStep a X Y w := join_one (Scalar.maximumf a (mx (blk X w))) (pay10_eq Y w)
theorem step3 : k0_pay16 (k0_pay13 a (unsq X) w) (k0_pay15 (unsq Y) w) = mxStep a X Y w :=
  (join_one (Scalar.maximumf a (mx (k0_pay12 (unsq X) w))) (pay14_eq Y w)).trans
    (congrArg (fun Z => Scalar.maximumf (Scalar.maximumf a (mx Z)) (mx (blk Y w))) (pay12_eq X w))
theorem step4 : k0_pay21 (k0_pay18 a (unsq X) w) Y w = mxStep a X Y w :=
  congrArg (fun Z => Scalar.maximumf (Scalar.maximumf a (mx Z)) (mx (blk Y w))) (pay17_eq X w)
theorem step5 : k0_pay25 a (k0_pay23 (unsq X) w) (unsq Y) w = mxStep a X Y w :=
  (join_one (Scalar.maximumf a (mx (k0_pay22 (unsq X) w))) (pay24_eq Y w)).trans
    (congrArg (fun Z => Scalar.maximumf (Scalar.maximumf a (mx Z)) (mx (blk Y w))) (pay22_eq X w))
theorem step6 : k0_pay29 a X w (unsq Y) w = mxStep a X Y w := join_one (Scalar.maximumf a (mx (blk X w))) (pay28_eq Y w)
theorem step7 : k0_pay32 a (unsq X) w (unsq Y) w = broadcast S1x128 (mxStep a X Y w) :=
  congrArg (fun z : F .f32 => (broadcast S1x128 z : FVec F S1x128 .f32))
    ((join_one (Scalar.maximumf a (mx (k0_pay30 (unsq X) w))) (pay31_eq Y w)).trans
      (congrArg (fun Z => Scalar.maximumf (Scalar.maximumf a (mx Z)) (mx (blk Y w))) (pay30_eq X w)))

end Blocks

theorem pay33_eq (c : Dev nD) : k0_pay33 (row m c) = row m c := shapeCast_self _ _

/-! ## Offsets -/

theorem off2_at (c : Dev nD) (r : Fin 6) :
    k0_off2 c (BitVec.ofNat 32 (1 + r.val)) = ![512 * (orig false (1 + r.val) c).val + (if false then 256 else 0), 0] := by
  rw [Gen.k0_off2_eq]
  have h : ((c.val + 7) - r.val) % 8 = (orig false (1 + r.val) c).val := by
    show _ = (c.val + 7 * (1 + r.val)) % 8; have := r.isLt; have := dev_lt c; omega
  rw [h]; rfl
theorem off3_at (c : Dev nD) (r : Fin 6) :
    k0_off3 c (BitVec.ofNat 32 (1 + r.val)) = ![512 * (orig true (1 + r.val) c).val + (if true then 256 else 0), 0] := by
  rw [Gen.k0_off3_eq]
  have h : (c.val + r.val + 1) % 8 = (orig true (1 + r.val) c).val := by
    show _ = (c.val + (1 + r.val)) % 8; rw [Nat.add_assoc, Nat.add_comm r.val 1]
  rw [h]; rfl
theorem off4_at (c : Dev nD) : k0_off4 c = ![512 * (orig false 7 c).val + (if false then 256 else 0), 0] := by
  rw [Gen.k0_off4_eq]
  have h : (c.val + 1) % 8 = (orig false 7 c).val := by
    show _ = (c.val + 7 * 7) % 8; have := dev_lt c; omega
  rw [h]; rfl
theorem off5_at (c : Dev nD) : k0_off5 c = ![512 * (orig true 7 c).val + (if true then 256 else 0), 0] := by
  rw [Gen.k0_off5_eq]; rfl
theorem off6_at (c : Dev nD) : k0_off6 c = k0_off7 c := by rw [Gen.k0_off6_eq, Gen.k0_off7_eq]

/-- A program in sequence with its continuation. -/
theorem run_bind {α β : Type} (c : Dev nD) (p : Prog (TpuEff nD τ sig (Elt F) Λ₀ .tc) α) (k : α → Prog (TpuEff nD τ sig (Elt F) Λ₀ .tc) β)
    (Q : β → sProp (MT nD τ sig ℕ (Elt F) ℕ UU ℕ)) :
    Run c p (fun x => Run c (k x) Q) ⊢ Run c (p >>= k) Q := by
  unfold Run; rw [wp_bind]

/-- A program that only returns ends in its postcondition. -/
theorem run_ret {α : Type} (c : Dev nD) (a : α) (Q : α → sProp (MT nD τ sig ℕ (Elt F) ℕ UU ℕ)) :
    Q a ⊢ Run c (.ret a) Q := by
  unfold Run; rw [wp_ret]
  iintro H; imodintro; iexact H

theorem run_ret_upd {α : Type} (c : Dev nD) (a : α) (Q : α → sProp (MT nD τ sig ℕ (Elt F) ℕ UU ℕ)) : (|={Set.univ}=> Q a) ⊢ Run c (.ret a) Q := by
  unfold Run; rw [wp_ret]

end Cert.Ring8

end
-- ==== Proof.PartsA.lean ====
/-
The kernel's pieces one by one, run by the rules: the barrier, the first three hops.
-/
module

public import proofs.«01_k».proof.Proof.Pay

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ) (K : Dev nD × KI → ℕ)

theorem part1 (c : Dev nD) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (d0 : Dev nD) (v2 : BitVec 32) (v5 : BitVec 32), BitVec 32) → sProp (MT nD τ sig ℕ (Elt F) ℕ UU ℕ)} :
    env m K ⊢ iprop(barT (F := F) false c
      -∗ slotAny (F := F) false 0 c
      -∗ slotAny (F := F) false 1 c
      -∗ owesE 0 c
      -∗ barT (F := F) true c
      -∗ slotAny (F := F) true 0 c
      -∗ slotAny (F := F) true 1 c
      -∗ barW (F := F) c
      -∗ xE m c
      -∗ bAny (F := F) c
      -∗ (∀ v2 : BitVec 32, ∀ v5 : BitVec 32, ∀ v7 : BitVec 32, (owesE 2 c ∗ (semVal (bcell c) 0 : sProp 𝕄) ∗ slotAny (F := F) false 0 (nx false c) ∗ slotAny (F := F) false 1 (nx false c) ∗ slotAny (F := F) true 0 (nx true c) ∗ slotAny (F := F) true 1 (nx true c) ∗ (reached ER (ccell false c) 0 : sProp 𝕄) ∗ (reached ER (ccell true c) 0 : sProp 𝕄) ∗ xE m c ∗ srcC m false c 0 ∗ srcC m true c 0)
          -∗ Q ⟨c, v2, v5, v7⟩)
      -∗ Run c (k0_part1 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 ) Q) := by
  rw [k0_part1_eq_skeleton]; unfold k0_part1_skel
  simp only [semSignalWord, semWaitWord, Prog.lift, Prog.bind_op, Prog.bind_ret, Prog.pure_eq_ret, wp_deviceId]
  iintro #He HbTf Hslf0 Hslf1 HO HbTt Hslt0 Hslt1 HbW Hx Hb Hk
  iapply (sig_bar m K false (n := 0) (n' := 1) rfl c ⟨k0_dev1 c, k0_dev1_lt c⟩ (Fin.ext (Gen.k0_dev1_eq c)) (fun _ => rfl) rfl rfl) $$ He HbTf Hslf0 Hslf1 HO; iintro HO
  iapply (sig_bar m K true (n := 1) (n' := 2) rfl c ⟨k0_dev2 c, k0_dev2_lt c⟩ (Fin.ext (Gen.k0_dev2_eq c)) (fun _ => rfl) rfl rfl) $$ He HbTt Hslt0 Hslt1 HO; iintro HO
  iapply (wait_bar m K (n := 2) (by decide) c rfl rfl) $$ He HbW HO; iintro ⟨HO, Hsvb, Hnsf0, Hnsf1, Hnst0, Hnst1, #Hrcf0, #Hrct0⟩
  iapply (ld_x m c) $$ Hx; iintro Hx
  iapply (ld_b c) $$ Hb; iintro %_ Hb
  iapply (st_b m c rfl) $$ Hb; iintro ⟨Hsrcf0, Hsrct0⟩
  iapply (run_ret c)
  iapply Hk $$ %_ %_ %_
  isplitl [HO]; · iexact HO
  isplitl [Hsvb]; · iexact Hsvb
  isplitl [Hnsf0]; · iexact Hnsf0
  isplitl [Hnsf1]; · iexact Hnsf1
  isplitl [Hnst0]; · iexact Hnst0
  isplitl [Hnst1]; · iexact Hnst1
  isplitl []; · iexact Hrcf0
  isplitl []; · iexact Hrct0
  isplitl [Hx]; · iexact Hx
  isplitl [Hsrcf0]; · iexact Hsrcf0
  iexact Hsrct0

theorem part2 (c : Dev nD) (v2 v5 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(srcC m false c 0
      -∗ slotAny (F := F) false 1 (nx false c)
      -∗ (reached ER (ccell false c) 0 : sProp 𝕄)
      -∗ trav (F := F) false 0 c
      -∗ hopT (F := F) false 0 c
      -∗ owesE 2 c
      -∗ srcC m true c 0
      -∗ slotAny (F := F) true 1 (nx true c)
      -∗ (reached ER (ccell true c) 0 : sProp 𝕄)
      -∗ trav (F := F) true 0 c
      -∗ hopT (F := F) true 0 c
      -∗ xE m c
      -∗ wE m c
      -∗ outE m 0 c
      -∗ (((reached ER (ccell false c) 0 : sProp 𝕄) ∗ hopW (F := F) false 0 c ∗ (reached ER (ccell true c) 0 : sProp 𝕄) ∗ owesE 4 c ∗ hopW (F := F) true 0 c ∗ xE m c ∗ wE m c ∗ outE m 1 c)
          -∗ Q (amx m c 0))
      -∗ Run c (k0_part2 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v5) Q) := by
  rw [k0_part2_eq_skeleton]; unfold k0_part2_skel
  simp only [semSignalWord, semWaitWord, Prog.lift, Prog.bind_op, Prog.bind_ret, Prog.pure_eq_ret]
  iintro #He Hsrcf0 Hnsf1 #Hrcf0 Htrf0 HhTf0 HO Hsrct0 Hnst1 #Hrct0 Htrt0 HhTt0 Hx Hw HY Hk
  iapply (send_hop m K false (h := 0) (s := 1) (r := 0) (n := 2) (n' := 3) (by decide) rfl rfl rfl c ⟨k0_dev3 c, k0_dev3_lt c⟩ (Fin.ext (Gen.k0_dev3_eq c)) (fun _ => rfl) rfl rfl rfl rfl) $$ He Hsrcf0 Hnsf1 Hrcf0 Htrf0 HhTf0 HO; iintro ⟨HhWf0, HO⟩
  iapply (send_hop m K true (h := 0) (s := 1) (r := 0) (n := 3) (n' := 4) (by decide) rfl rfl rfl c ⟨k0_dev4 c, k0_dev4_lt c⟩ (Fin.ext (Gen.k0_dev4_eq c)) (fun _ => rfl) rfl rfl rfl rfl) $$ He Hsrct0 Hnst1 Hrct0 Htrt0 HhTt0 HO; iintro ⟨HhWt0, HO⟩
  iapply (ld_x m c) $$ Hx; iintro Hx
  iapply (ld_w m c) $$ Hw; iintro Hw
  iapply (ld_o m 0 c) $$ HY; iintro %_ HY
  iapply (st_own m c (Gen.k0_off1_eq c) rfl) $$ HY; iintro HY
  iapply (run_ret c)
  rw [show k0_pay4 (xs m c) (ws m c) = amx m c 0 from rfl]
  iapply Hk
  isplitl []; · iexact Hrcf0
  isplitl [HhWf0]; · iexact HhWf0
  isplitl []; · iexact Hrct0
  isplitl [HO]; · iexact HO
  isplitl [HhWt0]; · iexact HhWt0
  isplitl [Hx]; · iexact Hx
  isplitl [Hw]; · iexact Hw
  iexact HY

theorem part3 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopW (F := F) false 0 c
      -∗ owesE 4 c
      -∗ hopR (F := F) false 0 c
      -∗ hopW (F := F) true 0 c
      -∗ hopR (F := F) true 0 c
      -∗ (((semVal (dcell (jS false) 0 c) 0 : sProp 𝕄) ∗ srcC m false c 0 ∗ (semVal (dcell (jR false) 0 c) 0 : sProp 𝕄) ∗ srcC m false c 1 ∗ slotC false 1 fullShare.right c (chunk m false (orig false 1 c)) ∗ (reached ER (ccell false (pv false c)) 0 : sProp 𝕄) ∗ trav (F := F) false 1 c ∗ got (F := F) false 0 c ∗ (semVal (dcell (jS true) 0 c) 0 : sProp 𝕄) ∗ srcC m true c 0 ∗ owesE 4 c ∗ (semVal (dcell (jR true) 0 c) 0 : sProp 𝕄) ∗ srcC m true c 1 ∗ slotC true 1 fullShare.right c (chunk m true (orig true 1 c)) ∗ (reached ER (ccell true (pv true c)) 0 : sProp 𝕄) ∗ trav (F := F) true 1 c ∗ got (F := F) true 0 c)
          -∗ Q ⟨⟩)
      -∗ Run c (k0_part3 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 v5 v7) Q) := by
  rw [k0_part3_eq_skeleton]; unfold k0_part3_skel
  simp only [semSignalWord, semWaitWord, Prog.lift, Prog.bind_op, Prog.bind_ret, Prog.pure_eq_ret]
  iintro #He HhWf0 HO HhRf0 HhWt0 HhRt0 Hk
  iapply (wait_S0 m K false (n := 4) (by decide) c rfl ((credit_half false).trans (amtD_S false).symm)) $$ He HhWf0 HO; iintro ⟨HO, HsvSf0, Hsrcf0⟩
  iapply (wait_R m K false (h := 0) (g := 1) (s := 1) (r := 0) (n := 4) rfl (by decide) rfl rfl (by decide) c rfl ((credit_slot false 1).trans (amtD_R false).symm)) $$ He HhRf0 HO; iintro ⟨HO, HsvRf0, Hsrcf1, Hrtf1, #Hrpf0, Htrf1, Hgotf0⟩
  iapply (wait_S0 m K true (n := 4) (by decide) c rfl ((credit_half true).trans (amtD_S true).symm)) $$ He HhWt0 HO; iintro ⟨HO, HsvSt0, Hsrct0⟩
  iapply (wait_R m K true (h := 0) (g := 1) (s := 1) (r := 0) (n := 4) rfl (by decide) rfl rfl (by decide) c rfl ((credit_slot true 1).trans (amtD_R true).symm)) $$ He HhRt0 HO; iintro ⟨HO, HsvRt0, Hsrct1, Hrtt1, #Hrpt0, Htrt1, Hgott0⟩
  iapply (run_ret c)
  iapply Hk
  isplitl [HsvSf0]; · iexact HsvSf0
  isplitl [Hsrcf0]; · iexact Hsrcf0
  isplitl [HsvRf0]; · iexact HsvRf0
  isplitl [Hsrcf1]; · iexact Hsrcf1
  isplitl [Hrtf1]; · iexact Hrtf1
  isplitl []; · iexact Hrpf0
  isplitl [Htrf1]; · iexact Htrf1
  isplitl [Hgotf0]; · iexact Hgotf0
  isplitl [HsvSt0]; · iexact HsvSt0
  isplitl [Hsrct0]; · iexact Hsrct0
  isplitl [HO]; · iexact HO
  isplitl [HsvRt0]; · iexact HsvRt0
  isplitl [Hsrct1]; · iexact Hsrct1
  isplitl [Hrtt1]; · iexact Hrtt1
  isplitl []; · iexact Hrpt0
  isplitl [Htrt1]; · iexact Htrt1
  iexact Hgott0

theorem part4 (c : Dev nD) (v2 v5 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v100 : BitVec 32), FVec F S256x1024 .f32) → sProp (MT nD τ sig ℕ (Elt F) ℕ UU ℕ)} :
    env m K ⊢ iprop(srcC m false c 1
      -∗ slotAny (F := F) false 0 (nx false c)
      -∗ (reached ER (ccell false c) 0 : sProp 𝕄)
      -∗ trav (F := F) false 1 c
      -∗ hopT (F := F) false 1 c
      -∗ owesE 4 c
      -∗ srcC m true c 1
      -∗ slotAny (F := F) true 0 (nx true c)
      -∗ (reached ER (ccell true c) 0 : sProp 𝕄)
      -∗ trav (F := F) true 1 c
      -∗ hopT (F := F) true 1 c
      -∗ slotC false 1 fullShare.right c (chunk m false (orig false 1 c))
      -∗ wE m c
      -∗ outE m 1 c
      -∗ (∀ v100 : BitVec 32, ((reached ER (ccell false c) 0 : sProp 𝕄) ∗ hopW (F := F) false 1 c ∗ (reached ER (ccell true c) 0 : sProp 𝕄) ∗ owesE 6 c ∗ hopW (F := F) true 1 c ∗ slotC false 1 fullShare.right c (chunk m false (orig false 1 c)) ∗ wE m c ∗ outE m 1 c)
          -∗ Q ⟨v100, blk (chunk m false (orig false 1 c)) (ws m c)⟩)
      -∗ Run c (k0_part4 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v5) Q) := by
  rw [k0_part4_eq_skeleton]; unfold k0_part4_skel
  simp only [semSignalWord, semWaitWord, Prog.lift, Prog.bind_op, Prog.bind_ret, Prog.pure_eq_ret]
  iintro #He Hsrcf1 Hnsf0 #Hrcf0 Htrf1 HhTf1 HO Hsrct1 Hnst0 #Hrct0 Htrt1 HhTt1 Hrtf1 Hw HY Hk
  iapply (send_hop m K false (h := 1) (s := 0) (r := 0) (n := 4) (n' := 5) (by decide) rfl rfl rfl c ⟨k0_dev5 c, k0_dev5_lt c⟩ (Fin.ext (Gen.k0_dev5_eq c)) (fun _ => rfl) rfl rfl rfl rfl) $$ He Hsrcf1 Hnsf0 Hrcf0 Htrf1 HhTf1 HO; iintro ⟨HhWf1, HO⟩
  iapply (send_hop m K true (h := 1) (s := 0) (r := 0) (n := 5) (n' := 6) (by decide) rfl rfl rfl c ⟨k0_dev6 c, k0_dev6_lt c⟩ (Fin.ext (Gen.k0_dev6_eq c)) (fun _ => rfl) rfl rfl rfl rfl) $$ He Hsrct1 Hnst0 Hrct0 Htrt1 HhTt1 HO; iintro ⟨HhWt1, HO⟩
  iapply (ld_slot false 1 fullShare.right c (chunk m false (orig false 1 c)) rfl rfl) $$ Hrtf1; iintro Hrtf1
  iapply (ld_w m c) $$ Hw; iintro Hw
  iapply (ld_o m 1 c) $$ HY; iintro %_ HY
  iapply (run_ret c)
  rw [show k0_pay5 (unsq (chunk m false (orig false 1 c))) (ws m c) = blk (chunk m false (orig false 1 c)) (ws m c) from pay5_eq _ _]
  iapply Hk $$ %_
  isplitl []; · iexact Hrcf0
  isplitl [HhWf1]; · iexact HhWf1
  isplitl []; · iexact Hrct0
  isplitl [HO]; · iexact HO
  isplitl [HhWt1]; · iexact HhWt1
  isplitl [Hrtf1]; · iexact Hrtf1
  isplitl [Hw]; · iexact Hw
  iexact HY

theorem part5 (c : Dev nD) (v7 v100 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(outE m 1 c
      -∗ slotC true 1 fullShare.right c (chunk m true (orig true 1 c))
      -∗ wE m c
      -∗ hopW (F := F) false 1 c
      -∗ slotC false 1 fullShare.right c (chunk m false (orig false 1 c))
      -∗ owesE 6 c
      -∗ ((slotC true 1 fullShare.right c (chunk m true (orig true 1 c)) ∗ wE m c ∗ outE m 3 c ∗ owesE 6 c ∗ (semVal (dcell (jS false) 1 c) 0 : sProp 𝕄) ∗ slotAny (F := F) false 1 c)
          -∗ Q (amx m c 1))
      -∗ Run c (k0_part5 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v7 (amx m c 0) v100 (blk (chunk m false (orig false 1 c)) (ws m c))) Q) := by
  rw [k0_part5_eq_skeleton]; unfold k0_part5_skel
  simp only [semSignalWord, semWaitWord, Prog.lift, Prog.bind_op, Prog.bind_ret, Prog.pure_eq_ret]
  iintro #He HY Hrtt1 Hw HhWf1 Hrtf1 HO Hk
  iapply (st_hop m false (h := 1) (n := 1) (n' := 2) (by decide) (by decide) c rfl rfl (off2_at c 0) rfl) $$ HY; iintro HY
  iapply (ld_slot true 1 fullShare.right c (chunk m true (orig true 1 c)) rfl rfl) $$ Hrtt1; iintro Hrtt1
  iapply (ld_w m c) $$ Hw; iintro Hw
  iapply (ld_o m 2 c) $$ HY; iintro %_ HY
  iapply (st_hop m true (h := 1) (n := 2) (n' := 3) (by decide) (by decide) c rfl rfl (off3_at c 0) (pay6_eq _ _)) $$ HY; iintro HY
  iapply (wait_S m K false (h := 0) (g := 1) (s := 1) (n := 6) rfl (by decide) rfl (by decide) c rfl ((credit_slot false 1).trans (amtD_S false).symm)) $$ He HhWf1 Hrtf1 HO; iintro ⟨HO, HsvSf1, Hslf1⟩
  iapply (run_ret c)
  rw [show k0_pay7 (amx m c 0) (blk (chunk m false (orig false 1 c)) (ws m c)) (unsq (chunk m true (orig true 1 c))) (ws m c) = amx m c 1 from step1 _ _ _ _]
  iapply Hk
  isplitl [Hrtt1]; · iexact Hrtt1
  isplitl [Hw]; · iexact Hw
  isplitl [HY]; · iexact HY
  isplitl [HO]; · iexact HO
  isplitl [HsvSf1]; · iexact HsvSf1
  iexact Hslf1

theorem part6 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopR (F := F) false 1 c
      -∗ owesE 6 c
      -∗ hopW (F := F) true 1 c
      -∗ slotC true 1 fullShare.right c (chunk m true (orig true 1 c))
      -∗ hopR (F := F) true 1 c
      -∗ crT (F := F) false 0 c
      -∗ slotAny (F := F) false 1 c
      -∗ crT (F := F) true 0 c
      -∗ crW (F := F) false 0 c
      -∗ crP (F := F) false 0 c
      -∗ (((semVal (dcell (jR false) 1 c) 0 : sProp 𝕄) ∗ srcC m false c 2 ∗ slotC false 0 fullShare.right c (chunk m false (orig false 2 c)) ∗ (reached ER (ccell false (pv false c)) 0 : sProp 𝕄) ∗ trav (F := F) false 2 c ∗ got (F := F) false 1 c ∗ (semVal (dcell (jS true) 1 c) 0 : sProp 𝕄) ∗ (semVal (dcell (jR true) 1 c) 0 : sProp 𝕄) ∗ srcC m true c 2 ∗ slotC true 0 fullShare.right c (chunk m true (orig true 2 c)) ∗ (reached ER (ccell true (pv true c)) 0 : sProp 𝕄) ∗ trav (F := F) true 2 c ∗ got (F := F) true 1 c ∗ owesE 8 c ∗ crP (F := F) false 1 c ∗ (reached ER (ccell false c) 1 : sProp 𝕄) ∗ slotAny (F := F) false 1 (nx false c))
          -∗ Q ⟨⟩)
      -∗ Run c (k0_part6 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v5 v7) Q) := by
  rw [k0_part6_eq_skeleton]; unfold k0_part6_skel
  simp only [semSignalWord, semWaitWord, Prog.lift, Prog.bind_op, Prog.bind_ret, Prog.pure_eq_ret]
  iintro #He HhRf1 HO HhWt1 Hrtt1 HhRt1 HcrTf0 Hslf1 HcrTt0 HcrWf0 HcrPf0 Hk
  iapply (wait_R m K false (h := 1) (g := 2) (s := 0) (r := 0) (n := 6) rfl (by decide) rfl rfl (by decide) c rfl ((credit_slot false 0).trans (amtD_R false).symm)) $$ He HhRf1 HO; iintro ⟨HO, HsvRf1, Hsrcf2, Hrtf2, #Hrpf0, Htrf2, Hgotf1⟩
  iapply (wait_S m K true (h := 0) (g := 1) (s := 1) (n := 6) rfl (by decide) rfl (by decide) c rfl ((credit_slot true 1).trans (amtD_S true).symm)) $$ He HhWt1 Hrtt1 HO; iintro ⟨HO, HsvSt1, Hslt1⟩
  iapply (wait_R m K true (h := 1) (g := 2) (s := 0) (r := 0) (n := 6) rfl (by decide) rfl rfl (by decide) c rfl ((credit_slot true 0).trans (amtD_R true).symm)) $$ He HhRt1 HO; iintro ⟨HO, HsvRt1, Hsrct2, Hrtt2, #Hrpt0, Htrt2, Hgott1⟩
  iapply (sig_cr m K false (r := 0) (s := 1) (n := 6) (n' := 7) (by decide) rfl rfl c ⟨k0_dev7 c, k0_dev7_lt c⟩ (Fin.ext (Gen.k0_dev7_eq c)) (fun _ => rfl) rfl rfl) $$ He Hrpf0 HcrTf0 Hslf1 HO; iintro HO
  iapply (sig_cr m K true (r := 0) (s := 1) (n := 7) (n' := 8) (by decide) rfl rfl c ⟨k0_dev8 c, k0_dev8_lt c⟩ (Fin.ext (Gen.k0_dev8_eq c)) (fun _ => rfl) rfl rfl) $$ He Hrpt0 HcrTt0 Hslt1 HO; iintro HO
  iapply (wait_cr m K false (r := 0) (g := 1) (s := 1) (n := 8) rfl (by decide) rfl (by decide) c rfl rfl) $$ He HcrWf0 HO HcrPf0; iintro ⟨HO, HcrPf1, #Hrcf1, Hnsf1⟩
  iapply (run_ret c)
  iapply Hk
  isplitl [HsvRf1]; · iexact HsvRf1
  isplitl [Hsrcf2]; · iexact Hsrcf2
  isplitl [Hrtf2]; · iexact Hrtf2
  isplitl []; · iexact Hrpf0
  isplitl [Htrf2]; · iexact Htrf2
  isplitl [Hgotf1]; · iexact Hgotf1
  isplitl [HsvSt1]; · iexact HsvSt1
  isplitl [HsvRt1]; · iexact HsvRt1
  isplitl [Hsrct2]; · iexact Hsrct2
  isplitl [Hrtt2]; · iexact Hrtt2
  isplitl []; · iexact Hrpt0
  isplitl [Htrt2]; · iexact Htrt2
  isplitl [Hgott1]; · iexact Hgott1
  isplitl [HO]; · iexact HO
  isplitl [HcrPf1]; · iexact HcrPf1
  isplitl []; · iexact Hrcf1
  iexact Hnsf1

theorem part7 (c : Dev nD) (v2 v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v186 : BitVec 32) (v188 : BitVec 32), FVec F S256x4096 .bf16) → sProp (MT nD τ sig ℕ (Elt F) ℕ UU ℕ)} :
    env m K ⊢ iprop(crW (F := F) true 0 c
      -∗ owesE 8 c
      -∗ crP (F := F) true 0 c
      -∗ srcC m false c 2
      -∗ slotAny (F := F) false 1 (nx false c)
      -∗ (reached ER (ccell false c) 1 : sProp 𝕄)
      -∗ trav (F := F) false 2 c
      -∗ hopT (F := F) false 2 c
      -∗ srcC m true c 2
      -∗ trav (F := F) true 2 c
      -∗ hopT (F := F) true 2 c
      -∗ slotC false 0 fullShare.right c (chunk m false (orig false 2 c))
      -∗ (∀ v186 : BitVec 32, ∀ v188 : BitVec 32, (crP (F := F) true 1 c ∗ (reached ER (ccell true c) 1 : sProp 𝕄) ∗ (reached ER (ccell false c) 1 : sProp 𝕄) ∗ hopW (F := F) false 2 c ∗ owesE 10 c ∗ hopW (F := F) true 2 c ∗ slotC false 0 fullShare.right c (chunk m false (orig false 2 c)))
          -∗ Q ⟨v186, v188, (chunk m false (orig false 2 c))⟩)
      -∗ Run c (k0_part7 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v5 v7) Q) := by
  rw [k0_part7_eq_skeleton]; unfold k0_part7_skel
  simp only [semSignalWord, semWaitWord, Prog.lift, Prog.bind_op, Prog.bind_ret, Prog.pure_eq_ret]
  iintro #He HcrWt0 HO HcrPt0 Hsrcf2 Hnsf1 #Hrcf1 Htrf2 HhTf2 Hsrct2 Htrt2 HhTt2 Hrtf2 Hk
  iapply (wait_cr m K true (r := 0) (g := 1) (s := 1) (n := 8) rfl (by decide) rfl (by decide) c rfl rfl) $$ He HcrWt0 HO HcrPt0; iintro ⟨HO, HcrPt1, #Hrct1, Hnst1⟩
  iapply (send_hop m K false (h := 2) (s := 1) (r := 1) (n := 8) (n' := 9) (by decide) rfl rfl rfl c ⟨k0_dev9 c, k0_dev9_lt c⟩ (Fin.ext (Gen.k0_dev9_eq c)) (fun _ => rfl) rfl rfl rfl rfl) $$ He Hsrcf2 Hnsf1 Hrcf1 Htrf2 HhTf2 HO; iintro ⟨HhWf2, HO⟩
  iapply (send_hop m K true (h := 2) (s := 1) (r := 1) (n := 9) (n' := 10) (by decide) rfl rfl rfl c ⟨k0_dev10 c, k0_dev10_lt c⟩ (Fin.ext (Gen.k0_dev10_eq c)) (fun _ => rfl) rfl rfl rfl rfl) $$ He Hsrct2 Hnst1 Hrct1 Htrt2 HhTt2 HO; iintro ⟨HhWt2, HO⟩
  iapply (ld_slot false 0 fullShare.right c (chunk m false (orig false 2 c)) rfl rfl) $$ Hrtf2; iintro Hrtf2
  iapply (run_ret c)
  rw [show k0_pay8 (unsq (chunk m false (orig false 2 c))) = (chunk m false (orig false 2 c)) from pay8_eq _]
  iapply Hk $$ %_ %_
  isplitl [HcrPt1]; · iexact HcrPt1
  isplitl []; · iexact Hrct1
  isplitl []; · iexact Hrcf1
  isplitl [HhWf2]; · iexact HhWf2
  isplitl [HO]; · iexact HO
  isplitl [HhWt2]; · iexact HhWt2
  iexact Hrtf2

theorem part8 (c : Dev nD) (v186 v188 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(wE m c
      -∗ outE m 3 c
      -∗ slotC true 0 fullShare.right c (chunk m true (orig true 2 c))
      -∗ ((slotC true 0 fullShare.right c (chunk m true (orig true 2 c)) ∗ wE m c ∗ outE m 5 c)
          -∗ Q (amx m c 2))
      -∗ Run c (k0_part8 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c (amx m c 1) v186 v188 (chunk m false (orig false 2 c))) Q) := by
  rw [k0_part8_eq_skeleton]; unfold k0_part8_skel
  simp only [semSignalWord, semWaitWord, Prog.lift, Prog.bind_op, Prog.bind_ret, Prog.pure_eq_ret]
  iintro #He Hw HY Hrtt2 Hk
  iapply (ld_w m c) $$ Hw; iintro Hw
  iapply (ld_o m 3 c) $$ HY; iintro %_ HY
  iapply (st_hop m false (h := 2) (n := 3) (n' := 4) (by decide) (by decide) c rfl rfl (off2_at c 1) (pay9_eq _ _)) $$ HY; iintro HY
  iapply (ld_slot true 0 fullShare.right c (chunk m true (orig true 2 c)) rfl rfl) $$ Hrtt2; iintro Hrtt2
  iapply (ld_w m c) $$ Hw; iintro Hw
  iapply (ld_o m 4 c) $$ HY; iintro %_ HY
  iapply (st_hop m true (h := 2) (n := 4) (n' := 5) (by decide) (by decide) c rfl rfl (off3_at c 1) (pay10_eq _ _)) $$ HY; iintro HY
  iapply (run_ret c)
  rw [show k0_pay11 (amx m c 1) (chunk m false (orig false 2 c)) (ws m c) (unsq (chunk m true (orig true 2 c))) (ws m c) = amx m c 2 from step2 _ _ _ _]
  iapply Hk
  isplitl [Hrtt2]; · iexact Hrtt2
  isplitl [Hw]; · iexact Hw
  iexact HY

theorem part9 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopW (F := F) false 2 c
      -∗ slotC false 0 fullShare.right c (chunk m false (orig false 2 c))
      -∗ owesE 10 c
      -∗ hopR (F := F) false 2 c
      -∗ hopW (F := F) true 2 c
      -∗ slotC true 0 fullShare.right c (chunk m true (orig true 2 c))
      -∗ hopR (F := F) true 2 c
      -∗ (((semVal (dcell (jS false) 2 c) 0 : sProp 𝕄) ∗ slotAny (F := F) false 0 c ∗ (semVal (dcell (jR false) 2 c) 0 : sProp 𝕄) ∗ srcC m false c 3 ∗ slotC false 1 fullShare.right c (chunk m false (orig false 3 c)) ∗ (reached ER (ccell false (pv false c)) 1 : sProp 𝕄) ∗ trav (F := F) false 3 c ∗ got (F := F) false 2 c ∗ (semVal (dcell (jS true) 2 c) 0 : sProp 𝕄) ∗ slotAny (F := F) true 0 c ∗ owesE 10 c ∗ (semVal (dcell (jR true) 2 c) 0 : sProp 𝕄) ∗ srcC m true c 3 ∗ slotC true 1 fullShare.right c (chunk m true (orig true 3 c)) ∗ (reached ER (ccell true (pv true c)) 1 : sProp 𝕄) ∗ trav (F := F) true 3 c ∗ got (F := F) true 2 c)
          -∗ Q ⟨⟩)
      -∗ Run c (k0_part9 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 v5 v7) Q) := by
  rw [k0_part9_eq_skeleton]; unfold k0_part9_skel
  simp only [semSignalWord, semWaitWord, Prog.lift, Prog.bind_op, Prog.bind_ret, Prog.pure_eq_ret]
  iintro #He HhWf2 Hrtf2 HO HhRf2 HhWt2 Hrtt2 HhRt2 Hk
  iapply (wait_S m K false (h := 1) (g := 2) (s := 0) (n := 10) rfl (by decide) rfl (by decide) c rfl ((credit_slot false 0).trans (amtD_S false).symm)) $$ He HhWf2 Hrtf2 HO; iintro ⟨HO, HsvSf2, Hslf0⟩
  iapply (wait_R m K false (h := 2) (g := 3) (s := 1) (r := 1) (n := 10) rfl (by decide) rfl rfl (by decide) c rfl ((credit_slot false 1).trans (amtD_R false).symm)) $$ He HhRf2 HO; iintro ⟨HO, HsvRf2, Hsrcf3, Hrtf3, #Hrpf1, Htrf3, Hgotf2⟩
  iapply (wait_S m K true (h := 1) (g := 2) (s := 0) (n := 10) rfl (by decide) rfl (by decide) c rfl ((credit_slot true 0).trans (amtD_S true).symm)) $$ He HhWt2 Hrtt2 HO; iintro ⟨HO, HsvSt2, Hslt0⟩
  iapply (wait_R m K true (h := 2) (g := 3) (s := 1) (r := 1) (n := 10) rfl (by decide) rfl rfl (by decide) c rfl ((credit_slot true 1).trans (amtD_R true).symm)) $$ He HhRt2 HO; iintro ⟨HO, HsvRt2, Hsrct3, Hrtt3, #Hrpt1, Htrt3, Hgott2⟩
  iapply (run_ret c)
  iapply Hk
  isplitl [HsvSf2]; · iexact HsvSf2
  isplitl [Hslf0]; · iexact Hslf0
  isplitl [HsvRf2]; · iexact HsvRf2
  isplitl [Hsrcf3]; · iexact Hsrcf3
  isplitl [Hrtf3]; · iexact Hrtf3
  isplitl []; · iexact Hrpf1
  isplitl [Htrf3]; · iexact Htrf3
  isplitl [Hgotf2]; · iexact Hgotf2
  isplitl [HsvSt2]; · iexact HsvSt2
  isplitl [Hslt0]; · iexact Hslt0
  isplitl [HO]; · iexact HO
  isplitl [HsvRt2]; · iexact HsvRt2
  isplitl [Hsrct3]; · iexact Hsrct3
  isplitl [Hrtt3]; · iexact Hrtt3
  isplitl []; · iexact Hrpt1
  isplitl [Htrt3]; · iexact Htrt3
  iexact Hgott2

theorem part10 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (BitVec 32) → sProp (MT nD τ sig ℕ (Elt F) ℕ UU ℕ)} :
    env m K ⊢ iprop((reached ER (ccell false (pv false c)) 1 : sProp 𝕄)
      -∗ crT (F := F) false 1 c
      -∗ slotAny (F := F) false 0 c
      -∗ owesE 10 c
      -∗ (reached ER (ccell true (pv true c)) 1 : sProp 𝕄)
      -∗ crT (F := F) true 1 c
      -∗ slotAny (F := F) true 0 c
      -∗ crW (F := F) false 1 c
      -∗ crP (F := F) false 1 c
      -∗ crW (F := F) true 1 c
      -∗ crP (F := F) true 1 c
      -∗ srcC m false c 3
      -∗ trav (F := F) false 3 c
      -∗ hopT (F := F) false 3 c
      -∗ srcC m true c 3
      -∗ trav (F := F) true 3 c
      -∗ hopT (F := F) true 3 c
      -∗ (∀ v : BitVec 32, ((reached ER (ccell false (pv false c)) 1 : sProp 𝕄) ∗ (reached ER (ccell true (pv true c)) 1 : sProp 𝕄) ∗ crP (F := F) false 2 c ∗ (reached ER (ccell false c) 2 : sProp 𝕄) ∗ crP (F := F) true 2 c ∗ (reached ER (ccell true c) 2 : sProp 𝕄) ∗ hopW (F := F) false 3 c ∗ owesE 14 c ∗ hopW (F := F) true 3 c)
          -∗ Q v)
      -∗ Run c (k0_part10 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v5 v7) Q) := by
  rw [k0_part10_eq_skeleton]; unfold k0_part10_skel
  simp only [semSignalWord, semWaitWord, Prog.lift, Prog.bind_op, Prog.bind_ret, Prog.pure_eq_ret]
  iintro #He #Hrpf1 HcrTf1 Hslf0 HO #Hrpt1 HcrTt1 Hslt0 HcrWf1 HcrPf1 HcrWt1 HcrPt1 Hsrcf3 Htrf3 HhTf3 Hsrct3 Htrt3 HhTt3 Hk
  iapply (sig_cr m K false (r := 1) (s := 0) (n := 10) (n' := 11) (by decide) rfl rfl c ⟨k0_dev11 c, k0_dev11_lt c⟩ (Fin.ext (Gen.k0_dev11_eq c)) (fun _ => rfl) rfl rfl) $$ He Hrpf1 HcrTf1 Hslf0 HO; iintro HO
  iapply (sig_cr m K true (r := 1) (s := 0) (n := 11) (n' := 12) (by decide) rfl rfl c ⟨k0_dev12 c, k0_dev12_lt c⟩ (Fin.ext (Gen.k0_dev12_eq c)) (fun _ => rfl) rfl rfl) $$ He Hrpt1 HcrTt1 Hslt0 HO; iintro HO
  iapply (wait_cr m K false (r := 1) (g := 2) (s := 0) (n := 12) rfl (by decide) rfl (by decide) c rfl rfl) $$ He HcrWf1 HO HcrPf1; iintro ⟨HO, HcrPf2, #Hrcf2, Hnsf0⟩
  iapply (wait_cr m K true (r := 1) (g := 2) (s := 0) (n := 12) rfl (by decide) rfl (by decide) c rfl rfl) $$ He HcrWt1 HO HcrPt1; iintro ⟨HO, HcrPt2, #Hrct2, Hnst0⟩
  iapply (send_hop m K false (h := 3) (s := 0) (r := 2) (n := 12) (n' := 13) (by decide) rfl rfl rfl c ⟨k0_dev13 c, k0_dev13_lt c⟩ (Fin.ext (Gen.k0_dev13_eq c)) (fun _ => rfl) rfl rfl rfl rfl) $$ He Hsrcf3 Hnsf0 Hrcf2 Htrf3 HhTf3 HO; iintro ⟨HhWf3, HO⟩
  iapply (send_hop m K true (h := 3) (s := 0) (r := 2) (n := 13) (n' := 14) (by decide) rfl rfl rfl c ⟨k0_dev14 c, k0_dev14_lt c⟩ (Fin.ext (Gen.k0_dev14_eq c)) (fun _ => rfl) rfl rfl rfl rfl) $$ He Hsrct3 Hnst0 Hrct2 Htrt3 HhTt3 HO; iintro ⟨HhWt3, HO⟩
  iapply (run_ret c)
  iapply Hk $$ %_
  isplitl []; · iexact Hrpf1
  isplitl []; · iexact Hrpt1
  isplitl [HcrPf2]; · iexact HcrPf2
  isplitl []; · iexact Hrcf2
  isplitl [HcrPt2]; · iexact HcrPt2
  isplitl []; · iexact Hrct2
  isplitl [HhWf3]; · iexact HhWf3
  isplitl [HO]; · iexact HO
  iexact HhWt3

end Cert.Ring8

end
-- ==== Proof.PartsB.lean ====
/-
The kernel's pieces one by one, run by the rules: the later hops.
-/
module

public import proofs.«01_k».proof.Proof.Pay

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ) (K : Dev nD × KI → ℕ)

theorem part11 (c : Dev nD) (v2 c8_i32_278 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v291 : F .f32), FVec F S1 .f32) → sProp (MT nD τ sig ℕ (Elt F) ℕ UU ℕ)} :
    env m K ⊢ iprop(slotC false 1 fullShare.right c (chunk m false (orig false 3 c))
      -∗ wE m c
      -∗ outE m 5 c
      -∗ slotC true 1 fullShare.right c (chunk m true (orig true 3 c))
      -∗ ((slotC false 1 fullShare.right c (chunk m false (orig false 3 c)) ∗ slotC true 1 fullShare.right c (chunk m true (orig true 3 c)) ∗ wE m c ∗ outE m 7 c)
          -∗ Q ⟨k0_pay13 (amx m c 2) (unsq (chunk m false (orig false 3 c))) (ws m c), k0_pay15 (unsq (chunk m true (orig true 3 c))) (ws m c)⟩)
      -∗ Run c (k0_part11 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 (amx m c 2) c8_i32_278) Q) := by
  rw [k0_part11_eq_skeleton]; unfold k0_part11_skel
  simp only [semSignalWord, semWaitWord, Prog.lift, Prog.bind_op, Prog.bind_ret, Prog.pure_eq_ret]
  iintro #He Hrtf3 Hw HY Hrtt3 Hk
  iapply (ld_slot false 1 fullShare.right c (chunk m false (orig false 3 c)) rfl rfl) $$ Hrtf3; iintro Hrtf3
  iapply (ld_w m c) $$ Hw; iintro Hw
  iapply (ld_o m 5 c) $$ HY; iintro %_ HY
  iapply (st_hop m false (h := 3) (n := 5) (n' := 6) (by decide) (by decide) c rfl rfl (off2_at c 2) (pay12_eq _ _)) $$ HY; iintro HY
  iapply (ld_slot true 1 fullShare.right c (chunk m true (orig true 3 c)) rfl rfl) $$ Hrtt3; iintro Hrtt3
  iapply (ld_w m c) $$ Hw; iintro Hw
  iapply (ld_o m 6 c) $$ HY; iintro %_ HY
  iapply (st_hop m true (h := 3) (n := 6) (n' := 7) (by decide) (by decide) c rfl rfl (off3_at c 2) (pay14_eq _ _)) $$ HY; iintro HY
  iapply (run_ret c)
  iapply Hk
  isplitl [Hrtf3]; · iexact Hrtf3
  isplitl [Hrtt3]; · iexact Hrtt3
  isplitl [Hw]; · iexact Hw
  iexact HY

theorem part12 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v307 : F .f32), BitVec 32) → sProp (MT nD τ sig ℕ (Elt F) ℕ UU ℕ)} :
    env m K ⊢ iprop(hopW (F := F) false 3 c
      -∗ slotC false 1 fullShare.right c (chunk m false (orig false 3 c))
      -∗ owesE 14 c
      -∗ hopR (F := F) false 3 c
      -∗ hopW (F := F) true 3 c
      -∗ slotC true 1 fullShare.right c (chunk m true (orig true 3 c))
      -∗ (∀ v328 : BitVec 32, ((semVal (dcell (jS false) 3 c) 0 : sProp 𝕄) ∗ slotAny (F := F) false 1 c ∗ (semVal (dcell (jR false) 3 c) 0 : sProp 𝕄) ∗ srcC m false c 4 ∗ slotC false 0 fullShare.right c (chunk m false (orig false 4 c)) ∗ (reached ER (ccell false (pv false c)) 2 : sProp 𝕄) ∗ trav (F := F) false 4 c ∗ got (F := F) false 3 c ∗ owesE 14 c ∗ (semVal (dcell (jS true) 3 c) 0 : sProp 𝕄) ∗ slotAny (F := F) true 1 c)
          -∗ Q ⟨amx m c 3, v328⟩)
      -∗ Run c (k0_part12 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 v5 v7 (k0_pay13 (amx m c 2) (unsq (chunk m false (orig false 3 c))) (ws m c)) (k0_pay15 (unsq (chunk m true (orig true 3 c))) (ws m c))) Q) := by
  rw [k0_part12_eq_skeleton]; unfold k0_part12_skel
  simp only [semSignalWord, semWaitWord, Prog.lift, Prog.bind_op, Prog.bind_ret, Prog.pure_eq_ret]
  iintro #He HhWf3 Hrtf3 HO HhRf3 HhWt3 Hrtt3 Hk
  iapply (wait_S m K false (h := 2) (g := 3) (s := 1) (n := 14) rfl (by decide) rfl (by decide) c rfl ((credit_slot false 1).trans (amtD_S false).symm)) $$ He HhWf3 Hrtf3 HO; iintro ⟨HO, HsvSf3, Hslf1⟩
  iapply (wait_R m K false (h := 3) (g := 4) (s := 0) (r := 2) (n := 14) rfl (by decide) rfl rfl (by decide) c rfl ((credit_slot false 0).trans (amtD_R false).symm)) $$ He HhRf3 HO; iintro ⟨HO, HsvRf3, Hsrcf4, Hrtf4, #Hrpf2, Htrf4, Hgotf3⟩
  iapply (wait_S m K true (h := 2) (g := 3) (s := 1) (n := 14) rfl (by decide) rfl (by decide) c rfl ((credit_slot true 1).trans (amtD_S true).symm)) $$ He HhWt3 Hrtt3 HO; iintro ⟨HO, HsvSt3, Hslt1⟩
  iapply (run_ret c)
  rw [show k0_pay16 (k0_pay13 (amx m c 2) (unsq (chunk m false (orig false 3 c))) (ws m c)) (k0_pay15 (unsq (chunk m true (orig true 3 c))) (ws m c)) = amx m c 3 from step3 _ _ _ _]
  iapply Hk $$ %_
  isplitl [HsvSf3]; · iexact HsvSf3
  isplitl [Hslf1]; · iexact Hslf1
  isplitl [HsvRf3]; · iexact HsvRf3
  isplitl [Hsrcf4]; · iexact Hsrcf4
  isplitl [Hrtf4]; · iexact Hrtf4
  isplitl []; · iexact Hrpf2
  isplitl [Htrf4]; · iexact Htrf4
  isplitl [Hgotf3]; · iexact Hgotf3
  isplitl [HO]; · iexact HO
  isplitl [HsvSt3]; · iexact HsvSt3
  iexact Hslt1

theorem part13 (c : Dev nD) (v5 v7 v328 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopR (F := F) true 3 c
      -∗ owesE 14 c
      -∗ (reached ER (ccell false (pv false c)) 2 : sProp 𝕄)
      -∗ crT (F := F) false 2 c
      -∗ slotAny (F := F) false 1 c
      -∗ crT (F := F) true 2 c
      -∗ slotAny (F := F) true 1 c
      -∗ crW (F := F) false 2 c
      -∗ crP (F := F) false 2 c
      -∗ crW (F := F) true 2 c
      -∗ crP (F := F) true 2 c
      -∗ srcC m false c 4
      -∗ trav (F := F) false 4 c
      -∗ hopT (F := F) false 4 c
      -∗ (((semVal (dcell (jR true) 3 c) 0 : sProp 𝕄) ∗ srcC m true c 4 ∗ slotC true 0 fullShare.right c (chunk m true (orig true 4 c)) ∗ (reached ER (ccell true (pv true c)) 2 : sProp 𝕄) ∗ trav (F := F) true 4 c ∗ got (F := F) true 3 c ∗ (reached ER (ccell false (pv false c)) 2 : sProp 𝕄) ∗ crP (F := F) false 3 c ∗ (reached ER (ccell false c) 3 : sProp 𝕄) ∗ crP (F := F) true 3 c ∗ (reached ER (ccell true c) 3 : sProp 𝕄) ∗ slotAny (F := F) true 1 (nx true c) ∗ owesE 17 c ∗ hopW (F := F) false 4 c)
          -∗ Q ⟨⟩)
      -∗ Run c (k0_part13 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v5 v7 v328) Q) := by
  rw [k0_part13_eq_skeleton]; unfold k0_part13_skel
  simp only [semSignalWord, semWaitWord, Prog.lift, Prog.bind_op, Prog.bind_ret, Prog.pure_eq_ret]
  iintro #He HhRt3 HO #Hrpf2 HcrTf2 Hslf1 HcrTt2 Hslt1 HcrWf2 HcrPf2 HcrWt2 HcrPt2 Hsrcf4 Htrf4 HhTf4 Hk
  iapply (wait_R m K true (h := 3) (g := 4) (s := 0) (r := 2) (n := 14) rfl (by decide) rfl rfl (by decide) c rfl ((credit_slot true 0).trans (amtD_R true).symm)) $$ He HhRt3 HO; iintro ⟨HO, HsvRt3, Hsrct4, Hrtt4, #Hrpt2, Htrt4, Hgott3⟩
  iapply (sig_cr m K false (r := 2) (s := 1) (n := 14) (n' := 15) (by decide) rfl rfl c ⟨k0_dev15 c, k0_dev15_lt c⟩ (Fin.ext (Gen.k0_dev15_eq c)) (fun _ => rfl) rfl rfl) $$ He Hrpf2 HcrTf2 Hslf1 HO; iintro HO
  iapply (sig_cr m K true (r := 2) (s := 1) (n := 15) (n' := 16) (by decide) rfl rfl c ⟨k0_dev16 c, k0_dev16_lt c⟩ (Fin.ext (Gen.k0_dev16_eq c)) (fun _ => rfl) rfl rfl) $$ He Hrpt2 HcrTt2 Hslt1 HO; iintro HO
  iapply (wait_cr m K false (r := 2) (g := 3) (s := 1) (n := 16) rfl (by decide) rfl (by decide) c rfl rfl) $$ He HcrWf2 HO HcrPf2; iintro ⟨HO, HcrPf3, #Hrcf3, Hnsf1⟩
  iapply (wait_cr m K true (r := 2) (g := 3) (s := 1) (n := 16) rfl (by decide) rfl (by decide) c rfl rfl) $$ He HcrWt2 HO HcrPt2; iintro ⟨HO, HcrPt3, #Hrct3, Hnst1⟩
  iapply (send_hop m K false (h := 4) (s := 1) (r := 3) (n := 16) (n' := 17) (by decide) rfl rfl rfl c ⟨k0_dev17 c, k0_dev17_lt c⟩ (Fin.ext (Gen.k0_dev17_eq c)) (fun _ => rfl) rfl rfl rfl rfl) $$ He Hsrcf4 Hnsf1 Hrcf3 Htrf4 HhTf4 HO; iintro ⟨HhWf4, HO⟩
  iapply (run_ret c)
  iapply Hk
  isplitl [HsvRt3]; · iexact HsvRt3
  isplitl [Hsrct4]; · iexact Hsrct4
  isplitl [Hrtt4]; · iexact Hrtt4
  isplitl []; · iexact Hrpt2
  isplitl [Htrt4]; · iexact Htrt4
  isplitl [Hgott3]; · iexact Hgott3
  isplitl []; · iexact Hrpf2
  isplitl [HcrPf3]; · iexact HcrPf3
  isplitl []; · iexact Hrcf3
  isplitl [HcrPt3]; · iexact HcrPt3
  isplitl []; · iexact Hrct3
  isplitl [Hnst1]; · iexact Hnst1
  isplitl [HO]; · iexact HO
  iexact HhWf4

theorem part14 (c : Dev nD) (v2 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v379 : F .f32) (v381 : FVec F S256x4096 .bf16), BitVec 32) → sProp (MT nD τ sig ℕ (Elt F) ℕ UU ℕ)} :
    env m K ⊢ iprop(srcC m true c 4
      -∗ slotAny (F := F) true 1 (nx true c)
      -∗ (reached ER (ccell true c) 3 : sProp 𝕄)
      -∗ trav (F := F) true 4 c
      -∗ hopT (F := F) true 4 c
      -∗ owesE 17 c
      -∗ slotC false 0 fullShare.right c (chunk m false (orig false 4 c))
      -∗ wE m c
      -∗ outE m 7 c
      -∗ slotC true 0 fullShare.right c (chunk m true (orig true 4 c))
      -∗ (∀ v383 : BitVec 32, ((reached ER (ccell true c) 3 : sProp 𝕄) ∗ owesE 18 c ∗ hopW (F := F) true 4 c ∗ slotC false 0 fullShare.right c (chunk m false (orig false 4 c)) ∗ wE m c ∗ outE m 8 c ∗ slotC true 0 fullShare.right c (chunk m true (orig true 4 c)))
          -∗ Q ⟨k0_pay18 (amx m c 3) (unsq (chunk m false (orig false 4 c))) (ws m c), (chunk m true (orig true 4 c)), v383⟩)
      -∗ Run c (k0_part14 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 (amx m c 3)) Q) := by
  rw [k0_part14_eq_skeleton]; unfold k0_part14_skel
  simp only [semSignalWord, semWaitWord, Prog.lift, Prog.bind_op, Prog.bind_ret, Prog.pure_eq_ret]
  iintro #He Hsrct4 Hnst1 #Hrct3 Htrt4 HhTt4 HO Hrtf4 Hw HY Hrtt4 Hk
  iapply (send_hop m K true (h := 4) (s := 1) (r := 3) (n := 17) (n' := 18) (by decide) rfl rfl rfl c ⟨k0_dev18 c, k0_dev18_lt c⟩ (Fin.ext (Gen.k0_dev18_eq c)) (fun _ => rfl) rfl rfl rfl rfl) $$ He Hsrct4 Hnst1 Hrct3 Htrt4 HhTt4 HO; iintro ⟨HhWt4, HO⟩
  iapply (ld_slot false 0 fullShare.right c (chunk m false (orig false 4 c)) rfl rfl) $$ Hrtf4; iintro Hrtf4
  iapply (ld_w m c) $$ Hw; iintro Hw
  iapply (ld_o m 7 c) $$ HY; iintro %_ HY
  iapply (st_hop m false (h := 4) (n := 7) (n' := 8) (by decide) (by decide) c rfl rfl (off2_at c 3) (pay17_eq _ _)) $$ HY; iintro HY
  iapply (ld_slot true 0 fullShare.right c (chunk m true (orig true 4 c)) rfl rfl) $$ Hrtt4; iintro Hrtt4
  iapply (run_ret c)
  rw [show k0_pay19 (unsq (chunk m true (orig true 4 c))) = (chunk m true (orig true 4 c)) from pay19_eq _]
  iapply Hk $$ %_
  isplitl []; · iexact Hrct3
  isplitl [HO]; · iexact HO
  isplitl [HhWt4]; · iexact HhWt4
  isplitl [Hrtf4]; · iexact Hrtf4
  isplitl [Hw]; · iexact Hw
  isplitl [HY]; · iexact HY
  iexact Hrtt4

theorem part15 (c : Dev nD) (v7 v383 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(wE m c
      -∗ outE m 8 c
      -∗ hopW (F := F) false 4 c
      -∗ slotC false 0 fullShare.right c (chunk m false (orig false 4 c))
      -∗ owesE 18 c
      -∗ hopR (F := F) false 4 c
      -∗ ((wE m c ∗ outE m 9 c ∗ (semVal (dcell (jS false) 4 c) 0 : sProp 𝕄) ∗ slotAny (F := F) false 0 c ∗ owesE 18 c ∗ (semVal (dcell (jR false) 4 c) 0 : sProp 𝕄) ∗ srcC m false c 5 ∗ slotC false 1 fullShare.right c (chunk m false (orig false 5 c)) ∗ (reached ER (ccell false (pv false c)) 3 : sProp 𝕄) ∗ trav (F := F) false 5 c ∗ got (F := F) false 4 c)
          -∗ Q (amx m c 4))
      -∗ Run c (k0_part15 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v7 (k0_pay18 (amx m c 3) (unsq (chunk m false (orig false 4 c))) (ws m c)) (chunk m true (orig true 4 c)) v383) Q) := by
  rw [k0_part15_eq_skeleton]; unfold k0_part15_skel
  simp only [semSignalWord, semWaitWord, Prog.lift, Prog.bind_op, Prog.bind_ret, Prog.pure_eq_ret]
  iintro #He Hw HY HhWf4 Hrtf4 HO HhRf4 Hk
  iapply (ld_w m c) $$ Hw; iintro Hw
  iapply (ld_o m 8 c) $$ HY; iintro %_ HY
  iapply (st_hop m true (h := 4) (n := 8) (n' := 9) (by decide) (by decide) c rfl rfl (off3_at c 3) (pay20_eq _ _)) $$ HY; iintro HY
  iapply (wait_S m K false (h := 3) (g := 4) (s := 0) (n := 18) rfl (by decide) rfl (by decide) c rfl ((credit_slot false 0).trans (amtD_S false).symm)) $$ He HhWf4 Hrtf4 HO; iintro ⟨HO, HsvSf4, Hslf0⟩
  iapply (wait_R m K false (h := 4) (g := 5) (s := 1) (r := 3) (n := 18) rfl (by decide) rfl rfl (by decide) c rfl ((credit_slot false 1).trans (amtD_R false).symm)) $$ He HhRf4 HO; iintro ⟨HO, HsvRf4, Hsrcf5, Hrtf5, #Hrpf3, Htrf5, Hgotf4⟩
  iapply (run_ret c)
  rw [show k0_pay21 (k0_pay18 (amx m c 3) (unsq (chunk m false (orig false 4 c))) (ws m c)) (chunk m true (orig true 4 c)) (ws m c) = amx m c 4 from step4 _ _ _ _]
  iapply Hk
  isplitl [Hw]; · iexact Hw
  isplitl [HY]; · iexact HY
  isplitl [HsvSf4]; · iexact HsvSf4
  isplitl [Hslf0]; · iexact Hslf0
  isplitl [HO]; · iexact HO
  isplitl [HsvRf4]; · iexact HsvRf4
  isplitl [Hsrcf5]; · iexact Hsrcf5
  isplitl [Hrtf5]; · iexact Hrtf5
  isplitl []; · iexact Hrpf3
  isplitl [Htrf5]; · iexact Htrf5
  iexact Hgotf4

theorem part16 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopW (F := F) true 4 c
      -∗ slotC true 0 fullShare.right c (chunk m true (orig true 4 c))
      -∗ owesE 18 c
      -∗ hopR (F := F) true 4 c
      -∗ (reached ER (ccell false (pv false c)) 3 : sProp 𝕄)
      -∗ crT (F := F) false 3 c
      -∗ slotAny (F := F) false 0 c
      -∗ crT (F := F) true 3 c
      -∗ crW (F := F) false 3 c
      -∗ crP (F := F) false 3 c
      -∗ crW (F := F) true 3 c
      -∗ crP (F := F) true 3 c
      -∗ (((semVal (dcell (jS true) 4 c) 0 : sProp 𝕄) ∗ (semVal (dcell (jR true) 4 c) 0 : sProp 𝕄) ∗ srcC m true c 5 ∗ slotC true 1 fullShare.right c (chunk m true (orig true 5 c)) ∗ (reached ER (ccell true (pv true c)) 3 : sProp 𝕄) ∗ trav (F := F) true 5 c ∗ got (F := F) true 4 c ∗ (reached ER (ccell false (pv false c)) 3 : sProp 𝕄) ∗ crP (F := F) false 4 c ∗ (reached ER (ccell false c) 4 : sProp 𝕄) ∗ slotAny (F := F) false 0 (nx false c) ∗ owesE 20 c ∗ crP (F := F) true 4 c ∗ (reached ER (ccell true c) 4 : sProp 𝕄) ∗ slotAny (F := F) true 0 (nx true c))
          -∗ Q ⟨⟩)
      -∗ Run c (k0_part16 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v5 v7) Q) := by
  rw [k0_part16_eq_skeleton]; unfold k0_part16_skel
  simp only [semSignalWord, semWaitWord, Prog.lift, Prog.bind_op, Prog.bind_ret, Prog.pure_eq_ret]
  iintro #He HhWt4 Hrtt4 HO HhRt4 #Hrpf3 HcrTf3 Hslf0 HcrTt3 HcrWf3 HcrPf3 HcrWt3 HcrPt3 Hk
  iapply (wait_S m K true (h := 3) (g := 4) (s := 0) (n := 18) rfl (by decide) rfl (by decide) c rfl ((credit_slot true 0).trans (amtD_S true).symm)) $$ He HhWt4 Hrtt4 HO; iintro ⟨HO, HsvSt4, Hslt0⟩
  iapply (wait_R m K true (h := 4) (g := 5) (s := 1) (r := 3) (n := 18) rfl (by decide) rfl rfl (by decide) c rfl ((credit_slot true 1).trans (amtD_R true).symm)) $$ He HhRt4 HO; iintro ⟨HO, HsvRt4, Hsrct5, Hrtt5, #Hrpt3, Htrt5, Hgott4⟩
  iapply (sig_cr m K false (r := 3) (s := 0) (n := 18) (n' := 19) (by decide) rfl rfl c ⟨k0_dev19 c, k0_dev19_lt c⟩ (Fin.ext (Gen.k0_dev19_eq c)) (fun _ => rfl) rfl rfl) $$ He Hrpf3 HcrTf3 Hslf0 HO; iintro HO
  iapply (sig_cr m K true (r := 3) (s := 0) (n := 19) (n' := 20) (by decide) rfl rfl c ⟨k0_dev20 c, k0_dev20_lt c⟩ (Fin.ext (Gen.k0_dev20_eq c)) (fun _ => rfl) rfl rfl) $$ He Hrpt3 HcrTt3 Hslt0 HO; iintro HO
  iapply (wait_cr m K false (r := 3) (g := 4) (s := 0) (n := 20) rfl (by decide) rfl (by decide) c rfl rfl) $$ He HcrWf3 HO HcrPf3; iintro ⟨HO, HcrPf4, #Hrcf4, Hnsf0⟩
  iapply (wait_cr m K true (r := 3) (g := 4) (s := 0) (n := 20) rfl (by decide) rfl (by decide) c rfl rfl) $$ He HcrWt3 HO HcrPt3; iintro ⟨HO, HcrPt4, #Hrct4, Hnst0⟩
  iapply (run_ret c)
  iapply Hk
  isplitl [HsvSt4]; · iexact HsvSt4
  isplitl [HsvRt4]; · iexact HsvRt4
  isplitl [Hsrct5]; · iexact Hsrct5
  isplitl [Hrtt5]; · iexact Hrtt5
  isplitl []; · iexact Hrpt3
  isplitl [Htrt5]; · iexact Htrt5
  isplitl [Hgott4]; · iexact Hgott4
  isplitl []; · iexact Hrpf3
  isplitl [HcrPf4]; · iexact HcrPf4
  isplitl []; · iexact Hrcf4
  isplitl [Hnsf0]; · iexact Hnsf0
  isplitl [HO]; · iexact HO
  isplitl [HcrPt4]; · iexact HcrPt4
  isplitl []; · iexact Hrct4
  iexact Hnst0

theorem part17 (c : Dev nD) (v2 v5 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v452 : BitVec 32), FVec F S1 .f32) → sProp (MT nD τ sig ℕ (Elt F) ℕ UU ℕ)} :
    env m K ⊢ iprop(srcC m false c 5
      -∗ slotAny (F := F) false 0 (nx false c)
      -∗ (reached ER (ccell false c) 4 : sProp 𝕄)
      -∗ trav (F := F) false 5 c
      -∗ hopT (F := F) false 5 c
      -∗ owesE 20 c
      -∗ srcC m true c 5
      -∗ slotAny (F := F) true 0 (nx true c)
      -∗ (reached ER (ccell true c) 4 : sProp 𝕄)
      -∗ trav (F := F) true 5 c
      -∗ hopT (F := F) true 5 c
      -∗ slotC false 1 fullShare.right c (chunk m false (orig false 5 c))
      -∗ wE m c
      -∗ outE m 9 c
      -∗ (∀ v452 : BitVec 32, ((reached ER (ccell false c) 4 : sProp 𝕄) ∗ hopW (F := F) false 5 c ∗ (reached ER (ccell true c) 4 : sProp 𝕄) ∗ owesE 22 c ∗ hopW (F := F) true 5 c ∗ slotC false 1 fullShare.right c (chunk m false (orig false 5 c)) ∗ wE m c ∗ outE m 10 c)
          -∗ Q ⟨v452, k0_pay23 (unsq (chunk m false (orig false 5 c))) (ws m c)⟩)
      -∗ Run c (k0_part17 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v5) Q) := by
  rw [k0_part17_eq_skeleton]; unfold k0_part17_skel
  simp only [semSignalWord, semWaitWord, Prog.lift, Prog.bind_op, Prog.bind_ret, Prog.pure_eq_ret]
  iintro #He Hsrcf5 Hnsf0 #Hrcf4 Htrf5 HhTf5 HO Hsrct5 Hnst0 #Hrct4 Htrt5 HhTt5 Hrtf5 Hw HY Hk
  iapply (send_hop m K false (h := 5) (s := 0) (r := 4) (n := 20) (n' := 21) (by decide) rfl rfl rfl c ⟨k0_dev21 c, k0_dev21_lt c⟩ (Fin.ext (Gen.k0_dev21_eq c)) (fun _ => rfl) rfl rfl rfl rfl) $$ He Hsrcf5 Hnsf0 Hrcf4 Htrf5 HhTf5 HO; iintro ⟨HhWf5, HO⟩
  iapply (send_hop m K true (h := 5) (s := 0) (r := 4) (n := 21) (n' := 22) (by decide) rfl rfl rfl c ⟨k0_dev22 c, k0_dev22_lt c⟩ (Fin.ext (Gen.k0_dev22_eq c)) (fun _ => rfl) rfl rfl rfl rfl) $$ He Hsrct5 Hnst0 Hrct4 Htrt5 HhTt5 HO; iintro ⟨HhWt5, HO⟩
  iapply (ld_slot false 1 fullShare.right c (chunk m false (orig false 5 c)) rfl rfl) $$ Hrtf5; iintro Hrtf5
  iapply (ld_w m c) $$ Hw; iintro Hw
  iapply (ld_o m 9 c) $$ HY; iintro %_ HY
  iapply (st_hop m false (h := 5) (n := 9) (n' := 10) (by decide) (by decide) c rfl rfl (off2_at c 4) (pay22_eq _ _)) $$ HY; iintro HY
  iapply (run_ret c)
  iapply Hk $$ %_
  isplitl []; · iexact Hrcf4
  isplitl [HhWf5]; · iexact HhWf5
  isplitl []; · iexact Hrct4
  isplitl [HO]; · iexact HO
  isplitl [HhWt5]; · iexact HhWt5
  isplitl [Hrtf5]; · iexact Hrtf5
  isplitl [Hw]; · iexact Hw
  iexact HY

theorem part18 (c : Dev nD) (v7 v452 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(slotC true 1 fullShare.right c (chunk m true (orig true 5 c))
      -∗ wE m c
      -∗ outE m 10 c
      -∗ hopW (F := F) false 5 c
      -∗ slotC false 1 fullShare.right c (chunk m false (orig false 5 c))
      -∗ owesE 22 c
      -∗ ((slotC true 1 fullShare.right c (chunk m true (orig true 5 c)) ∗ wE m c ∗ outE m 11 c ∗ owesE 22 c ∗ (semVal (dcell (jS false) 5 c) 0 : sProp 𝕄) ∗ slotAny (F := F) false 1 c)
          -∗ Q (amx m c 5))
      -∗ Run c (k0_part18 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v7 (amx m c 4) v452 (k0_pay23 (unsq (chunk m false (orig false 5 c))) (ws m c))) Q) := by
  rw [k0_part18_eq_skeleton]; unfold k0_part18_skel
  simp only [semSignalWord, semWaitWord, Prog.lift, Prog.bind_op, Prog.bind_ret, Prog.pure_eq_ret]
  iintro #He Hrtt5 Hw HY HhWf5 Hrtf5 HO Hk
  iapply (ld_slot true 1 fullShare.right c (chunk m true (orig true 5 c)) rfl rfl) $$ Hrtt5; iintro Hrtt5
  iapply (ld_w m c) $$ Hw; iintro Hw
  iapply (ld_o m 10 c) $$ HY; iintro %_ HY
  iapply (st_hop m true (h := 5) (n := 10) (n' := 11) (by decide) (by decide) c rfl rfl (off3_at c 4) (pay24_eq _ _)) $$ HY; iintro HY
  iapply (wait_S m K false (h := 4) (g := 5) (s := 1) (n := 22) rfl (by decide) rfl (by decide) c rfl ((credit_slot false 1).trans (amtD_S false).symm)) $$ He HhWf5 Hrtf5 HO; iintro ⟨HO, HsvSf5, Hslf1⟩
  iapply (run_ret c)
  rw [show k0_pay25 (amx m c 4) (k0_pay23 (unsq (chunk m false (orig false 5 c))) (ws m c)) (unsq (chunk m true (orig true 5 c))) (ws m c) = amx m c 5 from step5 _ _ _ _]
  iapply Hk
  isplitl [Hrtt5]; · iexact Hrtt5
  isplitl [Hw]; · iexact Hw
  isplitl [HY]; · iexact HY
  isplitl [HO]; · iexact HO
  isplitl [HsvSf5]; · iexact HsvSf5
  iexact Hslf1

theorem part19 (c : Dev nD) (v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(hopR (F := F) false 5 c
      -∗ owesE 22 c
      -∗ hopW (F := F) true 5 c
      -∗ slotC true 1 fullShare.right c (chunk m true (orig true 5 c))
      -∗ hopR (F := F) true 5 c
      -∗ crT (F := F) false 4 c
      -∗ slotAny (F := F) false 1 c
      -∗ crT (F := F) true 4 c
      -∗ crW (F := F) false 4 c
      -∗ crP (F := F) false 4 c
      -∗ crW (F := F) true 4 c
      -∗ crP (F := F) true 4 c
      -∗ (((semVal (dcell (jR false) 5 c) 0 : sProp 𝕄) ∗ srcC m false c 6 ∗ slotC false 0 fullShare.right c (chunk m false (orig false 6 c)) ∗ (reached ER (ccell false (pv false c)) 4 : sProp 𝕄) ∗ trav (F := F) false 6 c ∗ got (F := F) false 5 c ∗ (semVal (dcell (jS true) 5 c) 0 : sProp 𝕄) ∗ (semVal (dcell (jR true) 5 c) 0 : sProp 𝕄) ∗ srcC m true c 6 ∗ slotC true 0 fullShare.right c (chunk m true (orig true 6 c)) ∗ (reached ER (ccell true (pv true c)) 4 : sProp 𝕄) ∗ trav (F := F) true 6 c ∗ got (F := F) true 5 c ∗ crP (F := F) false 5 c ∗ (reached ER (ccell false c) 5 : sProp 𝕄) ∗ slotAny (F := F) false 1 (nx false c) ∗ owesE 24 c ∗ crP (F := F) true 5 c ∗ (reached ER (ccell true c) 5 : sProp 𝕄) ∗ slotAny (F := F) true 1 (nx true c))
          -∗ Q ⟨⟩)
      -∗ Run c (k0_part19 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v5 v7) Q) := by
  rw [k0_part19_eq_skeleton]; unfold k0_part19_skel
  simp only [semSignalWord, semWaitWord, Prog.lift, Prog.bind_op, Prog.bind_ret, Prog.pure_eq_ret]
  iintro #He HhRf5 HO HhWt5 Hrtt5 HhRt5 HcrTf4 Hslf1 HcrTt4 HcrWf4 HcrPf4 HcrWt4 HcrPt4 Hk
  iapply (wait_R m K false (h := 5) (g := 6) (s := 0) (r := 4) (n := 22) rfl (by decide) rfl rfl (by decide) c rfl ((credit_slot false 0).trans (amtD_R false).symm)) $$ He HhRf5 HO; iintro ⟨HO, HsvRf5, Hsrcf6, Hrtf6, #Hrpf4, Htrf6, Hgotf5⟩
  iapply (wait_S m K true (h := 4) (g := 5) (s := 1) (n := 22) rfl (by decide) rfl (by decide) c rfl ((credit_slot true 1).trans (amtD_S true).symm)) $$ He HhWt5 Hrtt5 HO; iintro ⟨HO, HsvSt5, Hslt1⟩
  iapply (wait_R m K true (h := 5) (g := 6) (s := 0) (r := 4) (n := 22) rfl (by decide) rfl rfl (by decide) c rfl ((credit_slot true 0).trans (amtD_R true).symm)) $$ He HhRt5 HO; iintro ⟨HO, HsvRt5, Hsrct6, Hrtt6, #Hrpt4, Htrt6, Hgott5⟩
  iapply (sig_cr m K false (r := 4) (s := 1) (n := 22) (n' := 23) (by decide) rfl rfl c ⟨k0_dev23 c, k0_dev23_lt c⟩ (Fin.ext (Gen.k0_dev23_eq c)) (fun _ => rfl) rfl rfl) $$ He Hrpf4 HcrTf4 Hslf1 HO; iintro HO
  iapply (sig_cr m K true (r := 4) (s := 1) (n := 23) (n' := 24) (by decide) rfl rfl c ⟨k0_dev24 c, k0_dev24_lt c⟩ (Fin.ext (Gen.k0_dev24_eq c)) (fun _ => rfl) rfl rfl) $$ He Hrpt4 HcrTt4 Hslt1 HO; iintro HO
  iapply (wait_cr m K false (r := 4) (g := 5) (s := 1) (n := 24) rfl (by decide) rfl (by decide) c rfl rfl) $$ He HcrWf4 HO HcrPf4; iintro ⟨HO, HcrPf5, #Hrcf5, Hnsf1⟩
  iapply (wait_cr m K true (r := 4) (g := 5) (s := 1) (n := 24) rfl (by decide) rfl (by decide) c rfl rfl) $$ He HcrWt4 HO HcrPt4; iintro ⟨HO, HcrPt5, #Hrct5, Hnst1⟩
  iapply (run_ret c)
  iapply Hk
  isplitl [HsvRf5]; · iexact HsvRf5
  isplitl [Hsrcf6]; · iexact Hsrcf6
  isplitl [Hrtf6]; · iexact Hrtf6
  isplitl []; · iexact Hrpf4
  isplitl [Htrf6]; · iexact Htrf6
  isplitl [Hgotf5]; · iexact Hgotf5
  isplitl [HsvSt5]; · iexact HsvSt5
  isplitl [HsvRt5]; · iexact HsvRt5
  isplitl [Hsrct6]; · iexact Hsrct6
  isplitl [Hrtt6]; · iexact Hrtt6
  isplitl []; · iexact Hrpt4
  isplitl [Htrt6]; · iexact Htrt6
  isplitl [Hgott5]; · iexact Hgott5
  isplitl [HcrPf5]; · iexact HcrPf5
  isplitl []; · iexact Hrcf5
  isplitl [Hnsf1]; · iexact Hnsf1
  isplitl [HO]; · iexact HO
  isplitl [HcrPt5]; · iexact HcrPt5
  isplitl []; · iexact Hrct5
  iexact Hnst1

theorem part20 (c : Dev nD) (v2 v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v540 : BitVec 32) (v542 : FVec F S256x4096 .bf16), BitVec 32) → sProp (MT nD τ sig ℕ (Elt F) ℕ UU ℕ)} :
    env m K ⊢ iprop(srcC m false c 6
      -∗ slotAny (F := F) false 1 (nx false c)
      -∗ (reached ER (ccell false c) 5 : sProp 𝕄)
      -∗ trav (F := F) false 6 c
      -∗ hopT (F := F) false 6 c
      -∗ owesE 24 c
      -∗ srcC m true c 6
      -∗ slotAny (F := F) true 1 (nx true c)
      -∗ (reached ER (ccell true c) 5 : sProp 𝕄)
      -∗ trav (F := F) true 6 c
      -∗ hopT (F := F) true 6 c
      -∗ slotC false 0 fullShare.right c (chunk m false (orig false 6 c))
      -∗ (∀ v540 : BitVec 32, ∀ v543 : BitVec 32, ((reached ER (ccell false c) 5 : sProp 𝕄) ∗ hopW (F := F) false 6 c ∗ (reached ER (ccell true c) 5 : sProp 𝕄) ∗ owesE 26 c ∗ hopW (F := F) true 6 c ∗ slotC false 0 fullShare.right c (chunk m false (orig false 6 c)))
          -∗ Q ⟨v540, (chunk m false (orig false 6 c)), v543⟩)
      -∗ Run c (k0_part20 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v5 v7) Q) := by
  rw [k0_part20_eq_skeleton]; unfold k0_part20_skel
  simp only [semSignalWord, semWaitWord, Prog.lift, Prog.bind_op, Prog.bind_ret, Prog.pure_eq_ret]
  iintro #He Hsrcf6 Hnsf1 #Hrcf5 Htrf6 HhTf6 HO Hsrct6 Hnst1 #Hrct5 Htrt6 HhTt6 Hrtf6 Hk
  iapply (send_hop m K false (h := 6) (s := 1) (r := 5) (n := 24) (n' := 25) (by decide) rfl rfl rfl c ⟨k0_dev25 c, k0_dev25_lt c⟩ (Fin.ext (Gen.k0_dev25_eq c)) (fun _ => rfl) rfl rfl rfl rfl) $$ He Hsrcf6 Hnsf1 Hrcf5 Htrf6 HhTf6 HO; iintro ⟨HhWf6, HO⟩
  iapply (send_hop m K true (h := 6) (s := 1) (r := 5) (n := 25) (n' := 26) (by decide) rfl rfl rfl c ⟨k0_dev26 c, k0_dev26_lt c⟩ (Fin.ext (Gen.k0_dev26_eq c)) (fun _ => rfl) rfl rfl rfl rfl) $$ He Hsrct6 Hnst1 Hrct5 Htrt6 HhTt6 HO; iintro ⟨HhWt6, HO⟩
  iapply (ld_slot false 0 fullShare.right c (chunk m false (orig false 6 c)) rfl rfl) $$ Hrtf6; iintro Hrtf6
  iapply (run_ret c)
  rw [show k0_pay26 (unsq (chunk m false (orig false 6 c))) = (chunk m false (orig false 6 c)) from pay26_eq _]
  iapply Hk $$ %_ %_
  isplitl []; · iexact Hrcf5
  isplitl [HhWf6]; · iexact HhWf6
  isplitl []; · iexact Hrct5
  isplitl [HO]; · iexact HO
  isplitl [HhWt6]; · iexact HhWt6
  iexact Hrtf6

theorem part21 (c : Dev nD) (v540 v543 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (F .f32) → sProp (MT nD τ sig ℕ (Elt F) ℕ UU ℕ)} :
    env m K ⊢ iprop(wE m c
      -∗ outE m 11 c
      -∗ slotC true 0 fullShare.right c (chunk m true (orig true 6 c))
      -∗ ((slotC true 0 fullShare.right c (chunk m true (orig true 6 c)) ∗ wE m c ∗ outE m 13 c)
          -∗ Q (amx m c 6))
      -∗ Run c (k0_part21 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c (amx m c 5) v540 (chunk m false (orig false 6 c)) v543) Q) := by
  rw [k0_part21_eq_skeleton]; unfold k0_part21_skel
  simp only [semSignalWord, semWaitWord, Prog.lift, Prog.bind_op, Prog.bind_ret, Prog.pure_eq_ret]
  iintro #He Hw HY Hrtt6 Hk
  iapply (ld_w m c) $$ Hw; iintro Hw
  iapply (ld_o m 11 c) $$ HY; iintro %_ HY
  iapply (st_hop m false (h := 6) (n := 11) (n' := 12) (by decide) (by decide) c rfl rfl (off2_at c 5) (pay27_eq _ _)) $$ HY; iintro HY
  iapply (ld_slot true 0 fullShare.right c (chunk m true (orig true 6 c)) rfl rfl) $$ Hrtt6; iintro Hrtt6
  iapply (ld_w m c) $$ Hw; iintro Hw
  iapply (ld_o m 12 c) $$ HY; iintro %_ HY
  iapply (st_hop m true (h := 6) (n := 12) (n' := 13) (by decide) (by decide) c rfl rfl (off3_at c 5) (pay28_eq _ _)) $$ HY; iintro HY
  iapply (run_ret c)
  rw [show k0_pay29 (amx m c 5) (chunk m false (orig false 6 c)) (ws m c) (unsq (chunk m true (orig true 6 c))) (ws m c) = amx m c 6 from step6 _ _ _ _]
  iapply Hk
  isplitl [Hrtt6]; · iexact Hrtt6
  isplitl [Hw]; · iexact Hw
  iexact HY

theorem part22 (c : Dev nD) (v2 v5 v7 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v601 : BitVec 32), BitVec 32) → sProp (MT nD τ sig ℕ (Elt F) ℕ UU ℕ)} :
    env m K ⊢ iprop(hopW (F := F) false 6 c
      -∗ slotC false 0 fullShare.right c (chunk m false (orig false 6 c))
      -∗ owesE 26 c
      -∗ hopR (F := F) false 6 c
      -∗ hopW (F := F) true 6 c
      -∗ slotC true 0 fullShare.right c (chunk m true (orig true 6 c))
      -∗ hopR (F := F) true 6 c
      -∗ (∀ v601 : BitVec 32, ∀ v : BitVec 32, ((semVal (dcell (jS false) 6 c) 0 : sProp 𝕄) ∗ slotAny (F := F) false 0 c ∗ (semVal (dcell (jR false) 6 c) 0 : sProp 𝕄) ∗ srcC m false c 7 ∗ slotC false 1 fullShare.right c (chunk m false (orig false 7 c)) ∗ (reached ER (ccell false (pv false c)) 5 : sProp 𝕄) ∗ trav (F := F) false 7 c ∗ got (F := F) false 6 c ∗ (semVal (dcell (jS true) 6 c) 0 : sProp 𝕄) ∗ slotAny (F := F) true 0 c ∗ owesE 26 c ∗ (semVal (dcell (jR true) 6 c) 0 : sProp 𝕄) ∗ srcC m true c 7 ∗ slotC true 1 fullShare.right c (chunk m true (orig true 7 c)) ∗ (reached ER (ccell true (pv true c)) 5 : sProp 𝕄) ∗ trav (F := F) true 7 c ∗ got (F := F) true 6 c)
          -∗ Q ⟨v601, v⟩)
      -∗ Run c (k0_part22 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 v2 v5 v7) Q) := by
  rw [k0_part22_eq_skeleton]; unfold k0_part22_skel
  simp only [semSignalWord, semWaitWord, Prog.lift, Prog.bind_op, Prog.bind_ret, Prog.pure_eq_ret]
  iintro #He HhWf6 Hrtf6 HO HhRf6 HhWt6 Hrtt6 HhRt6 Hk
  iapply (wait_S m K false (h := 5) (g := 6) (s := 0) (n := 26) rfl (by decide) rfl (by decide) c rfl ((credit_slot false 0).trans (amtD_S false).symm)) $$ He HhWf6 Hrtf6 HO; iintro ⟨HO, HsvSf6, Hslf0⟩
  iapply (wait_R m K false (h := 6) (g := 7) (s := 1) (r := 5) (n := 26) rfl (by decide) rfl rfl (by decide) c rfl ((credit_slot false 1).trans (amtD_R false).symm)) $$ He HhRf6 HO; iintro ⟨HO, HsvRf6, Hsrcf7, Hrtf7, #Hrpf5, Htrf7, Hgotf6⟩
  iapply (wait_S m K true (h := 5) (g := 6) (s := 0) (n := 26) rfl (by decide) rfl (by decide) c rfl ((credit_slot true 0).trans (amtD_S true).symm)) $$ He HhWt6 Hrtt6 HO; iintro ⟨HO, HsvSt6, Hslt0⟩
  iapply (wait_R m K true (h := 6) (g := 7) (s := 1) (r := 5) (n := 26) rfl (by decide) rfl rfl (by decide) c rfl ((credit_slot true 1).trans (amtD_R true).symm)) $$ He HhRt6 HO; iintro ⟨HO, HsvRt6, Hsrct7, Hrtt7, #Hrpt5, Htrt7, Hgott6⟩
  iapply (run_ret c)
  iapply Hk $$ %_ %_
  isplitl [HsvSf6]; · iexact HsvSf6
  isplitl [Hslf0]; · iexact Hslf0
  isplitl [HsvRf6]; · iexact HsvRf6
  isplitl [Hsrcf7]; · iexact Hsrcf7
  isplitl [Hrtf7]; · iexact Hrtf7
  isplitl []; · iexact Hrpf5
  isplitl [Htrf7]; · iexact Htrf7
  isplitl [Hgotf6]; · iexact Hgotf6
  isplitl [HsvSt6]; · iexact HsvSt6
  isplitl [Hslt0]; · iexact Hslt0
  isplitl [HO]; · iexact HO
  isplitl [HsvRt6]; · iexact HsvRt6
  isplitl [Hsrct7]; · iexact Hsrct7
  isplitl [Hrtt7]; · iexact Hrtt7
  isplitl []; · iexact Hrpt5
  isplitl [Htrt7]; · iexact Htrt7
  iexact Hgott6

theorem part23 (c : Dev nD) (v2 v601 c8_i32_623 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (FVec F S1x128 .f32) → sProp (MT nD τ sig ℕ (Elt F) ℕ UU ℕ)} :
    env m K ⊢ iprop(slotC false 1 fullShare.right c (chunk m false (orig false 7 c))
      -∗ wE m c
      -∗ outE m 13 c
      -∗ slotC true 1 fullShare.right c (chunk m true (orig true 7 c))
      -∗ ((slotC false 1 fullShare.right c (chunk m false (orig false 7 c)) ∗ slotC true 1 fullShare.right c (chunk m true (orig true 7 c)) ∗ wE m c ∗ outE m 15 c)
          -∗ Q (row m c))
      -∗ Run c (k0_part23 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 (amx m c 6) v601 c8_i32_623) Q) := by
  rw [k0_part23_eq_skeleton]; unfold k0_part23_skel
  simp only [semSignalWord, semWaitWord, Prog.lift, Prog.bind_op, Prog.bind_ret, Prog.pure_eq_ret]
  iintro #He Hrtf7 Hw HY Hrtt7 Hk
  iapply (ld_slot false 1 fullShare.right c (chunk m false (orig false 7 c)) rfl rfl) $$ Hrtf7; iintro Hrtf7
  iapply (ld_w m c) $$ Hw; iintro Hw
  iapply (ld_o m 13 c) $$ HY; iintro %_ HY
  iapply (st_hop m false (h := 7) (n := 13) (n' := 14) (by decide) (by decide) c rfl rfl (off4_at c) (pay30_eq _ _)) $$ HY; iintro HY
  iapply (ld_slot true 1 fullShare.right c (chunk m true (orig true 7 c)) rfl rfl) $$ Hrtt7; iintro Hrtt7
  iapply (ld_w m c) $$ Hw; iintro Hw
  iapply (ld_o m 14 c) $$ HY; iintro %_ HY
  iapply (st_hop m true (h := 7) (n := 14) (n' := 15) (by decide) (by decide) c rfl rfl (off5_at c) (pay31_eq _ _)) $$ HY; iintro HY
  iapply (run_ret c)
  rw [show k0_pay32 (amx m c 6) (unsq (chunk m false (orig false 7 c))) (ws m c) (unsq (chunk m true (orig true 7 c))) (ws m c) = row m c from step7 _ _ _ _]
  iapply Hk
  isplitl [Hrtf7]; · iexact Hrtf7
  isplitl [Hrtt7]; · iexact Hrtt7
  isplitl [Hw]; · iexact Hw
  iexact HY

end Cert.Ring8

end
-- ==== Proof.PartsC.lean ====
/-
The kernel's pieces one by one, run by the rules: the exchange of the maxima and the quantisation.
-/
module

public import proofs.«01_k».proof.Proof.Pay

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ) (K : Dev nD × KI → ℕ)

theorem part24 (c : Dev nD) (v2 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v642 : BitVec 32) (v652 : BitVec 32), BitVec 32) → sProp (MT nD τ sig ℕ (Elt F) ℕ UU ℕ)} :
    env m K ⊢ iprop(rowAny (F := F) c c
      -∗ got (F := F) false 6 c
      -∗ axT (F := F) 0 c
      -∗ owesE 26 c
      -∗ got (F := F) false 5 c
      -∗ axT (F := F) 1 c
      -∗ (∀ v642 : BitVec 32, ∀ v652 : BitVec 32, ∀ v662 : BitVec 32, (axW (F := F) 0 c ∗ owesE 28 c ∗ axW (F := F) 1 c ∗ rowC c c (restQ 2) (row m c))
          -∗ Q ⟨v642, v652, v662⟩)
      -∗ Run c (k0_part24 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 (row m c)) Q) := by
  rw [k0_part24_eq_skeleton]; unfold k0_part24_skel
  simp only [semSignalWord, semWaitWord, Prog.lift, Prog.bind_op, Prog.bind_ret, Prog.pure_eq_ret]
  iintro #He Hra Hgotf6 HaT0 HO Hgotf5 HaT1 Hk
  iapply (ld_row c (off6_at c)) $$ Hra; iintro %_ Hra
  iapply (st_row m c (off6_at c) (pay33_eq m c)) $$ Hra; iintro Hrow0
  iapply (send_ax m K (j := 0) (j' := 1) (g := 6) (n := 26) (n' := 27) rfl (by decide) rfl rfl c ⟨k0_dev27 c, k0_dev27_lt c⟩ (Fin.ext (Gen.k0_dev27_eq c)) (fun _ => rfl) rfl rfl rfl rfl) $$ He Hrow0 Hgotf6 HaT0 HO; iintro ⟨HaW0, Hrow1, HO⟩
  iapply (send_ax m K (j := 1) (j' := 2) (g := 5) (n := 27) (n' := 28) rfl (by decide) rfl rfl c ⟨k0_dev28 c, k0_dev28_lt c⟩ (Fin.ext (Gen.k0_dev28_eq c)) (fun _ => rfl) rfl rfl rfl rfl) $$ He Hrow1 Hgotf5 HaT1 HO; iintro ⟨HaW1, Hrow2, HO⟩
  iapply (run_ret c)
  iapply Hk $$ %_ %_ %_
  isplitl [HaW0]; · iexact HaW0
  isplitl [HO]; · iexact HO
  isplitl [HaW1]; · iexact HaW1
  iexact Hrow2

theorem part25 (c : Dev nD) (v2 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v672 : BitVec 32) (v682 : BitVec 32), BitVec 32) → sProp (MT nD τ sig ℕ (Elt F) ℕ UU ℕ)} :
    env m K ⊢ iprop(rowC c c (restQ 2) (row m c)
      -∗ got (F := F) false 4 c
      -∗ axT (F := F) 2 c
      -∗ owesE 28 c
      -∗ got (F := F) false 3 c
      -∗ axT (F := F) 3 c
      -∗ got (F := F) false 2 c
      -∗ axT (F := F) 4 c
      -∗ got (F := F) false 1 c
      -∗ axT (F := F) 5 c
      -∗ (∀ v672 : BitVec 32, ∀ v682 : BitVec 32, ∀ v692 : BitVec 32, (axW (F := F) 2 c ∗ axW (F := F) 3 c ∗ axW (F := F) 4 c ∗ owesE 32 c ∗ axW (F := F) 5 c ∗ rowC c c (restQ 6) (row m c))
          -∗ Q ⟨v672, v682, v692⟩)
      -∗ Run c (k0_part25 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2) Q) := by
  rw [k0_part25_eq_skeleton]; unfold k0_part25_skel
  simp only [semSignalWord, semWaitWord, Prog.lift, Prog.bind_op, Prog.bind_ret, Prog.pure_eq_ret]
  iintro #He Hrow2 Hgotf4 HaT2 HO Hgotf3 HaT3 Hgotf2 HaT4 Hgotf1 HaT5 Hk
  iapply (send_ax m K (j := 2) (j' := 3) (g := 4) (n := 28) (n' := 29) rfl (by decide) rfl rfl c ⟨k0_dev29 c, k0_dev29_lt c⟩ (Fin.ext (Gen.k0_dev29_eq c)) (fun _ => rfl) rfl rfl rfl rfl) $$ He Hrow2 Hgotf4 HaT2 HO; iintro ⟨HaW2, Hrow3, HO⟩
  iapply (send_ax m K (j := 3) (j' := 4) (g := 3) (n := 29) (n' := 30) rfl (by decide) rfl rfl c ⟨k0_dev30 c, k0_dev30_lt c⟩ (Fin.ext (Gen.k0_dev30_eq c)) (fun _ => rfl) rfl rfl rfl rfl) $$ He Hrow3 Hgotf3 HaT3 HO; iintro ⟨HaW3, Hrow4, HO⟩
  iapply (send_ax m K (j := 4) (j' := 5) (g := 2) (n := 30) (n' := 31) rfl (by decide) rfl rfl c ⟨k0_dev31 c, k0_dev31_lt c⟩ (Fin.ext (Gen.k0_dev31_eq c)) (fun _ => rfl) rfl rfl rfl rfl) $$ He Hrow4 Hgotf2 HaT4 HO; iintro ⟨HaW4, Hrow5, HO⟩
  iapply (send_ax m K (j := 5) (j' := 6) (g := 1) (n := 31) (n' := 32) rfl (by decide) rfl rfl c ⟨k0_dev32 c, k0_dev32_lt c⟩ (Fin.ext (Gen.k0_dev32_eq c)) (fun _ => rfl) rfl rfl rfl rfl) $$ He Hrow5 Hgotf1 HaT5 HO; iintro ⟨HaW5, Hrow6, HO⟩
  iapply (run_ret c)
  iapply Hk $$ %_ %_ %_
  isplitl [HaW2]; · iexact HaW2
  isplitl [HaW3]; · iexact HaW3
  isplitl [HaW4]; · iexact HaW4
  isplitl [HO]; · iexact HO
  isplitl [HaW5]; · iexact HaW5
  iexact Hrow6

theorem part26 (c : Dev nD) (v2 v642 v652 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (BitVec 32) → sProp (MT nD τ sig ℕ (Elt F) ℕ UU ℕ)} :
    env m K ⊢ iprop(rowC c c (restQ 6) (row m c)
      -∗ got (F := F) false 0 c
      -∗ axT (F := F) 6 c
      -∗ owesE 32 c
      -∗ axW (F := F) 0 c
      -∗ axR (F := F) 0 c
      -∗ axW (F := F) 1 c
      -∗ (∀ v702 : BitVec 32, (axW (F := F) 6 c ∗ rowC c c (restQ 7) (row m c) ∗ (semVal (dcell 4 0 c) 0 : sProp 𝕄) ∗ rowC c c (pieceQ 0) (row m c) ∗ (semVal (dcell 5 0 c) 0 : sProp 𝕄) ∗ rowLand m 0 c ∗ owesE 33 c ∗ (semVal (dcell 4 1 c) 0 : sProp 𝕄) ∗ rowC c c (pieceQ 1) (row m c))
          -∗ Q v702)
      -∗ Run c (k0_part26 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v2 v642 v652) Q) := by
  rw [k0_part26_eq_skeleton]; unfold k0_part26_skel
  simp only [semSignalWord, semWaitWord, Prog.lift, Prog.bind_op, Prog.bind_ret, Prog.pure_eq_ret]
  iintro #He Hrow6 Hgotf0 HaT6 HO HaW0 HaR0 HaW1 Hk
  iapply (send_ax m K (j := 6) (j' := 7) (g := 0) (n := 32) (n' := 33) rfl (by decide) rfl rfl c ⟨k0_dev33 c, k0_dev33_lt c⟩ (Fin.ext (Gen.k0_dev33_eq c)) (fun _ => rfl) rfl rfl rfl rfl) $$ He Hrow6 Hgotf0 HaT6 HO; iintro ⟨HaW6, Hrow7, HO⟩
  iapply (wait_axS m K (j := 0) (n := 33) (by decide) (by decide) c rfl (credit_row c)) $$ He HaW0 HO; iintro ⟨HO, Hsvx0, Hpc0⟩
  iapply (wait_axR m K (j := 0) (n := 33) (by decide) (by decide) c rfl (credit_row c)) $$ He HaR0 HO; iintro ⟨HO, Hsvy0, Hland0⟩
  iapply (wait_axS m K (j := 1) (n := 33) (by decide) (by decide) c rfl (credit_row c)) $$ He HaW1 HO; iintro ⟨HO, Hsvx1, Hpc1⟩
  iapply (run_ret c)
  iapply Hk $$ %_
  isplitl [HaW6]; · iexact HaW6
  isplitl [Hrow7]; · iexact Hrow7
  isplitl [Hsvx0]; · iexact Hsvx0
  isplitl [Hpc0]; · iexact Hpc0
  isplitl [Hsvy0]; · iexact Hsvy0
  isplitl [Hland0]; · iexact Hland0
  isplitl [HO]; · iexact HO
  isplitl [Hsvx1]; · iexact Hsvx1
  iexact Hpc1

theorem part27 (c : Dev nD) (v662 v672 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(axR (F := F) 1 c
      -∗ owesE 33 c
      -∗ axW (F := F) 2 c
      -∗ axR (F := F) 2 c
      -∗ axW (F := F) 3 c
      -∗ axR (F := F) 3 c
      -∗ (((semVal (dcell 5 1 c) 0 : sProp 𝕄) ∗ rowLand m 1 c ∗ (semVal (dcell 4 2 c) 0 : sProp 𝕄) ∗ rowC c c (pieceQ 2) (row m c) ∗ (semVal (dcell 5 2 c) 0 : sProp 𝕄) ∗ rowLand m 2 c ∗ (semVal (dcell 4 3 c) 0 : sProp 𝕄) ∗ rowC c c (pieceQ 3) (row m c) ∗ owesE 33 c ∗ (semVal (dcell 5 3 c) 0 : sProp 𝕄) ∗ rowLand m 3 c)
          -∗ Q ⟨⟩)
      -∗ Run c (k0_part27 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v662 v672) Q) := by
  rw [k0_part27_eq_skeleton]; unfold k0_part27_skel
  simp only [semSignalWord, semWaitWord, Prog.lift, Prog.bind_op, Prog.bind_ret, Prog.pure_eq_ret]
  iintro #He HaR1 HO HaW2 HaR2 HaW3 HaR3 Hk
  iapply (wait_axR m K (j := 1) (n := 33) (by decide) (by decide) c rfl (credit_row c)) $$ He HaR1 HO; iintro ⟨HO, Hsvy1, Hland1⟩
  iapply (wait_axS m K (j := 2) (n := 33) (by decide) (by decide) c rfl (credit_row c)) $$ He HaW2 HO; iintro ⟨HO, Hsvx2, Hpc2⟩
  iapply (wait_axR m K (j := 2) (n := 33) (by decide) (by decide) c rfl (credit_row c)) $$ He HaR2 HO; iintro ⟨HO, Hsvy2, Hland2⟩
  iapply (wait_axS m K (j := 3) (n := 33) (by decide) (by decide) c rfl (credit_row c)) $$ He HaW3 HO; iintro ⟨HO, Hsvx3, Hpc3⟩
  iapply (wait_axR m K (j := 3) (n := 33) (by decide) (by decide) c rfl (credit_row c)) $$ He HaR3 HO; iintro ⟨HO, Hsvy3, Hland3⟩
  iapply (run_ret c)
  iapply Hk
  isplitl [Hsvy1]; · iexact Hsvy1
  isplitl [Hland1]; · iexact Hland1
  isplitl [Hsvx2]; · iexact Hsvx2
  isplitl [Hpc2]; · iexact Hpc2
  isplitl [Hsvy2]; · iexact Hsvy2
  isplitl [Hland2]; · iexact Hland2
  isplitl [Hsvx3]; · iexact Hsvx3
  isplitl [Hpc3]; · iexact Hpc3
  isplitl [HO]; · iexact HO
  isplitl [Hsvy3]; · iexact Hsvy3
  iexact Hland3

theorem part28 (c : Dev nD) (v682 v692 v702 : BitVec 32) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (PUnit) → sProp (MT nD τ sig ℕ (Elt F) ℕ UU ℕ)} :
    env m K ⊢ iprop(axW (F := F) 4 c
      -∗ owesE 33 c
      -∗ axR (F := F) 4 c
      -∗ axW (F := F) 5 c
      -∗ axR (F := F) 5 c
      -∗ axW (F := F) 6 c
      -∗ axR (F := F) 6 c
      -∗ (((semVal (dcell 4 4 c) 0 : sProp 𝕄) ∗ rowC c c (pieceQ 4) (row m c) ∗ (semVal (dcell 5 4 c) 0 : sProp 𝕄) ∗ rowLand m 4 c ∗ (semVal (dcell 4 5 c) 0 : sProp 𝕄) ∗ rowC c c (pieceQ 5) (row m c) ∗ (semVal (dcell 5 5 c) 0 : sProp 𝕄) ∗ rowLand m 5 c ∗ (semVal (dcell 4 6 c) 0 : sProp 𝕄) ∗ rowC c c (pieceQ 6) (row m c) ∗ owesE 33 c ∗ (semVal (dcell 5 6 c) 0 : sProp 𝕄) ∗ rowLand m 6 c)
          -∗ Q ⟨⟩)
      -∗ Run c (k0_part28 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 c v682 v692 v702) Q) := by
  rw [k0_part28_eq_skeleton]; unfold k0_part28_skel
  simp only [semSignalWord, semWaitWord, Prog.lift, Prog.bind_op, Prog.bind_ret, Prog.pure_eq_ret]
  iintro #He HaW4 HO HaR4 HaW5 HaR5 HaW6 HaR6 Hk
  iapply (wait_axS m K (j := 4) (n := 33) (by decide) (by decide) c rfl (credit_row c)) $$ He HaW4 HO; iintro ⟨HO, Hsvx4, Hpc4⟩
  iapply (wait_axR m K (j := 4) (n := 33) (by decide) (by decide) c rfl (credit_row c)) $$ He HaR4 HO; iintro ⟨HO, Hsvy4, Hland4⟩
  iapply (wait_axS m K (j := 5) (n := 33) (by decide) (by decide) c rfl (credit_row c)) $$ He HaW5 HO; iintro ⟨HO, Hsvx5, Hpc5⟩
  iapply (wait_axR m K (j := 5) (n := 33) (by decide) (by decide) c rfl (credit_row c)) $$ He HaR5 HO; iintro ⟨HO, Hsvy5, Hland5⟩
  iapply (wait_axS m K (j := 6) (n := 33) (by decide) (by decide) c rfl (credit_row c)) $$ He HaW6 HO; iintro ⟨HO, Hsvx6, Hpc6⟩
  iapply (wait_axR m K (j := 6) (n := 33) (by decide) (by decide) c rfl (credit_row c)) $$ He HaR6 HO; iintro ⟨HO, Hsvy6, Hland6⟩
  iapply (run_ret c)
  iapply Hk
  isplitl [Hsvx4]; · iexact Hsvx4
  isplitl [Hpc4]; · iexact Hpc4
  isplitl [Hsvy4]; · iexact Hsvy4
  isplitl [Hland4]; · iexact Hland4
  isplitl [Hsvx5]; · iexact Hsvx5
  isplitl [Hpc5]; · iexact Hpc5
  isplitl [Hsvy5]; · iexact Hsvy5
  isplitl [Hland5]; · iexact Hland5
  isplitl [Hsvx6]; · iexact Hsvx6
  isplitl [Hpc6]; · iexact Hpc6
  isplitl [HO]; · iexact HO
  isplitl [Hsvy6]; · iexact Hsvy6
  iexact Hland6

theorem part29 (c : Dev nD) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (v787 : F .f32) (v788 : F .f32) (v817 : FVec F S512x1024 .f32), F .f32) → sProp (MT nD τ sig ℕ (Elt F) ℕ UU ℕ)} :
    env m K ⊢ iprop(aE m c
      -∗ quE m 0 c
      -∗ ((aE m c ∗ quE m 2 c)
          -∗ Q ⟨k0_pay35 (axC m), k0_pay36 (axC m), k0_pay39 (axC m) (yBlk m c 2), (Scalar.ofBits .f32 0xC2FE0000#32)⟩)
      -∗ Run c (k0_part29 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 ) Q) := by
  rw [k0_part29_eq_skeleton]; unfold k0_part29_skel
  simp only [semSignalWord, semWaitWord, Prog.lift, Prog.bind_op, Prog.bind_ret, Prog.pure_eq_ret]
  iintro #He HaE HY Hk
  iapply (ld_a m c) $$ HaE; iintro HaE
  iapply (ld_q m 0 (by decide) c rfl) $$ HY; iintro HY
  iapply (ld_q m 0 (by decide) c rfl) $$ HY; iintro HY
  iapply (st_q m 0 1 rfl (by decide) c rfl rfl) $$ HY; iintro HY
  iapply (ld_q m 1 (by decide) c rfl) $$ HY; iintro HY
  iapply (ld_q m 1 (by decide) c rfl) $$ HY; iintro HY
  iapply (st_q m 1 2 rfl (by decide) c rfl rfl) $$ HY; iintro HY
  iapply (ld_q m 2 (by decide) c rfl) $$ HY; iintro HY
  iapply (run_ret c)
  iapply Hk
  isplitl [HaE]; · iexact HaE
  iexact HY

theorem part30 (c : Dev nD) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : (Σ' (cst_814 : F .f32), FVec F S512x1024 .f32) → sProp (MT nD τ sig ℕ (Elt F) ℕ UU ℕ)} :
    env m K ⊢ iprop(quE m 2 c
      -∗ ((quE m 5 c)
          -∗ Q ⟨(Scalar.ofBits .f32 0x42FE0000#32), k0_pay43 (k0_pay36 (axC m)) (yBlk m c 5)⟩)
      -∗ Run c (k0_part30 (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11 (k0_pay35 (axC m)) (k0_pay36 (axC m)) (k0_pay39 (axC m) (yBlk m c 2)) (Scalar.ofBits .f32 0xC2FE0000#32)) Q) := by
  rw [k0_part30_eq_skeleton]; unfold k0_part30_skel
  simp only [semSignalWord, semWaitWord, Prog.lift, Prog.bind_op, Prog.bind_ret, Prog.pure_eq_ret]
  iintro #He HY Hk
  iapply (ld_q m 2 (by decide) c rfl) $$ HY; iintro HY
  iapply (st_q m 2 3 rfl (by decide) c rfl rfl) $$ HY; iintro HY
  iapply (ld_q m 3 (by decide) c rfl) $$ HY; iintro HY
  iapply (ld_q m 3 (by decide) c rfl) $$ HY; iintro HY
  iapply (st_q m 3 4 rfl (by decide) c rfl rfl) $$ HY; iintro HY
  iapply (ld_q m 4 (by decide) c rfl) $$ HY; iintro HY
  iapply (ld_q m 4 (by decide) c rfl) $$ HY; iintro HY
  iapply (st_q m 4 5 rfl (by decide) c rfl rfl) $$ HY; iintro HY
  iapply (ld_q m 5 (by decide) c rfl) $$ HY; iintro HY
  iapply (run_ret c)
  iapply Hk
  iexact HY

end Cert.Ring8

end
-- ==== Proof.Ends.lean ====
/-
The two ends of the kernel: how the scratch buffers are cut into the pieces that travel, and how the pieces join again.
-/
module

public import proofs.«01_k».proof.Proof.Hops

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ)

/-! ## The landing buffers -/

/-- A direction's whole landing buffer, at some contents. -/
def bufAny (d : Bool) (c : Dev nD) : sProp 𝕄 :=
  match d with
  | false => iprop(∃ f, (c : Thread nD τ).loc cc0_scratch0 ↦{fullShare} f)
  | true => iprop(∃ f, (c : Thread nD τ).loc cc0_scratch1 ↦{fullShare} f)

theorem rSlot_mem (s : Fin 2) (x : S2x256x4096.Idx) : x ∈ (rSlot s).set ↔ (x 0 : ℕ) = s.val := by
  rw [Rect.mem_set_unit]
  constructor
  · intro h
    have h0 := h 0
    change s.val ≤ (x 0 : ℕ) ∧ (x 0 : ℕ) < s.val + 1 at h0
    omega
  · intro h a
    fin_cases a
    · show s.val ≤ (x 0 : ℕ) ∧ (x 0 : ℕ) < s.val + 1; omega
    · show 0 ≤ (x 1 : ℕ) ∧ (x 1 : ℕ) < 0 + 256; have := (x 1).isLt; exact ⟨Nat.zero_le _, by simpa using this⟩
    · show 0 ≤ (x 2 : ℕ) ∧ (x 2 : ℕ) < 0 + 4096; have := (x 2).isLt; exact ⟨Nat.zero_le _, by simpa using this⟩
theorem rSlot_disj (s t : Fin 2) (h : s ≠ t) : Disjoint (rSlot s).set (rSlot t).set := by
  rw [Finset.disjoint_left]; intro x h1 h2
  rw [rSlot_mem] at h1 h2
  exact h (Fin.ext (h1.symm.trans h2))
theorem rSlot_cov : (Finset.univ : Finset (Fin 2)).biUnion (fun s => (rSlot s).set) = Finset.univ := by
  ext x; simp only [Finset.mem_biUnion, Finset.mem_univ, true_and, iff_true]
  exact ⟨⟨(x 0 : ℕ), (x 0).isLt⟩, (rSlot_mem _ _).mpr rfl⟩

/-- A slot, owned as elements of its buffer. -/
theorem slot_any_of (d : Bool) (s : Fin 2) (c : Dev nD) :
    iprop(∃ f, (slotM d s).view.loc (c : Thread nD τ) ↦[(slotM d s).view.set]{fullShare} f) ⊢ slotAny (F := F) d s c := by
  unfold slotAny slotC owns
  iintro ⟨%f, H⟩
  iexists _; iexists f; isplitr
  · ipureintro; rfl
  · iexact H
theorem slot_any_out (d : Bool) (s : Fin 2) (c : Dev nD) :
    slotAny (F := F) d s c ⊢ iprop(∃ f, (slotM d s).view.loc (c : Thread nD τ) ↦[(slotM d s).view.set]{fullShare} f) := by
  unfold slotAny slotC owns
  iintro ⟨%X, %f, -, H⟩
  iexists f; iexact H

theorem slot_set_f (s : Fin 2) : ((slotM false s).view.set : Finset S2x256x4096.Idx) = (rSlot s).set := by
  rw [slot_set, View.set_slice]; exact Finset.map_refl
theorem slot_in_f (s : Fin 2) (c : Dev nD) (f : Vec F S2x256x4096 .bf16) :
    ((c : Thread nD τ).loc cc0_scratch0 ↦[(rSlot s).set]{fullShare} f : sProp 𝕄) ⊢ slotAny (F := F) false s c := by
  refine BIBase.Entails.trans ?_ (slot_any_of false s c)
  rw [slot_set_f]
  iintro H; iexists f; iexact H
theorem slot_out_f (s : Fin 2) (c : Dev nD) :
    slotAny (F := F) false s c ⊢ iprop(∃ f : Vec F S2x256x4096 .bf16, (c : Thread nD τ).loc cc0_scratch0 ↦[(rSlot s).set]{fullShare} f) := by
  refine BIBase.Entails.trans (slot_any_out false s c) ?_
  rw [slot_set_f]
  exact .rfl
theorem slots_split_f (c : Dev nD) : bufAny (F := F) false c ⊢ iprop(slotAny (F := F) false 0 c ∗ slotAny (F := F) false 1 c) := by
  unfold bufAny
  iintro ⟨%f, H⟩
  have h : ((c : Thread nD τ).loc cc0_scratch0 ↦{fullShare} f : sProp 𝕄)
      ⊢ iprop(((c : Thread nD τ).loc cc0_scratch0 ↦[(rSlot 0).set]{fullShare} f) ∗ ((c : Thread nD τ).loc cc0_scratch0 ↦[(rSlot 1).set]{fullShare} f)) := by
    refine BIBase.Entails.trans (Entails.of_eq (congrArg (fun S => ((c : Thread nD τ).loc cc0_scratch0 ↦[S]{fullShare} f : sProp 𝕄)) rSlot_cov.symm)) ?_
    refine BIBase.Entails.trans (Entails.of_eq (pointsTo_biUnion _ _ (fun s _ t _ h => rSlot_disj s t h))) ?_
    rw [bigSep_univ_eq_bigSepL [0, 1] (by decide) (by decide), bigSepL_cons_cons, bigSepL_singleton]
    exact .rfl
  ihave H' := h $$ H
  icases H' with ⟨H0, H1⟩
  isplitl [H0]
  · iapply (slot_in_f 0 c f); iexact H0
  · iapply (slot_in_f 1 c f); iexact H1
theorem slots_join_f (c : Dev nD) : iprop(slotAny (F := F) false 0 c ∗ slotAny (F := F) false 1 c) ⊢ bufAny (F := F) false c := by
  unfold bufAny
  iintro ⟨H0, H1⟩
  ihave H0' := (slot_out_f 0 c) $$ H0
  icases H0' with ⟨%f, H0⟩
  ihave H1' := (slot_out_f 1 c) $$ H1
  icases H1' with ⟨%g, H1⟩
  ihave H := (pointsTo_join (ℓ := (c : Thread nD τ).loc cc0_scratch0) (rSlot_disj 0 1 (by decide))) $$ [H0 H1]
  · isplitl [H0] <;> iassumption
  have e : (rSlot 0).set ∪ (rSlot 1).set = Finset.univ := by
    ext x; simp only [Finset.mem_union, Finset.mem_univ, iff_true, rSlot_mem]
    have h : (x 0 : ℕ) < 2 := (x 0).isLt
    show (x 0 : ℕ) = 0 ∨ (x 0 : ℕ) = 1
    omega
  rw [e]
  iexists _; iexact H

theorem slot_set_t (s : Fin 2) : ((slotM true s).view.set : Finset S2x256x4096.Idx) = (rSlot s).set := by
  rw [slot_set, View.set_slice]; exact Finset.map_refl
theorem slot_in_t (s : Fin 2) (c : Dev nD) (f : Vec F S2x256x4096 .bf16) :
    ((c : Thread nD τ).loc cc0_scratch1 ↦[(rSlot s).set]{fullShare} f : sProp 𝕄) ⊢ slotAny (F := F) true s c := by
  refine BIBase.Entails.trans ?_ (slot_any_of true s c)
  rw [slot_set_t]
  iintro H; iexists f; iexact H
theorem slot_out_t (s : Fin 2) (c : Dev nD) :
    slotAny (F := F) true s c ⊢ iprop(∃ f : Vec F S2x256x4096 .bf16, (c : Thread nD τ).loc cc0_scratch1 ↦[(rSlot s).set]{fullShare} f) := by
  refine BIBase.Entails.trans (slot_any_out true s c) ?_
  rw [slot_set_t]
  exact .rfl
theorem slots_split_t (c : Dev nD) : bufAny (F := F) true c ⊢ iprop(slotAny (F := F) true 0 c ∗ slotAny (F := F) true 1 c) := by
  unfold bufAny
  iintro ⟨%f, H⟩
  have h : ((c : Thread nD τ).loc cc0_scratch1 ↦{fullShare} f : sProp 𝕄)
      ⊢ iprop(((c : Thread nD τ).loc cc0_scratch1 ↦[(rSlot 0).set]{fullShare} f) ∗ ((c : Thread nD τ).loc cc0_scratch1 ↦[(rSlot 1).set]{fullShare} f)) := by
    refine BIBase.Entails.trans (Entails.of_eq (congrArg (fun S => ((c : Thread nD τ).loc cc0_scratch1 ↦[S]{fullShare} f : sProp 𝕄)) rSlot_cov.symm)) ?_
    refine BIBase.Entails.trans (Entails.of_eq (pointsTo_biUnion _ _ (fun s _ t _ h => rSlot_disj s t h))) ?_
    rw [bigSep_univ_eq_bigSepL [0, 1] (by decide) (by decide), bigSepL_cons_cons, bigSepL_singleton]
    exact .rfl
  ihave H' := h $$ H
  icases H' with ⟨H0, H1⟩
  isplitl [H0]
  · iapply (slot_in_t 0 c f); iexact H0
  · iapply (slot_in_t 1 c f); iexact H1
theorem slots_join_t (c : Dev nD) : iprop(slotAny (F := F) true 0 c ∗ slotAny (F := F) true 1 c) ⊢ bufAny (F := F) true c := by
  unfold bufAny
  iintro ⟨H0, H1⟩
  ihave H0' := (slot_out_t 0 c) $$ H0
  icases H0' with ⟨%f, H0⟩
  ihave H1' := (slot_out_t 1 c) $$ H1
  icases H1' with ⟨%g, H1⟩
  ihave H := (pointsTo_join (ℓ := (c : Thread nD τ).loc cc0_scratch1) (rSlot_disj 0 1 (by decide))) $$ [H0 H1]
  · isplitl [H0] <;> iassumption
  have e : (rSlot 0).set ∪ (rSlot 1).set = Finset.univ := by
    ext x; simp only [Finset.mem_union, Finset.mem_univ, iff_true, rSlot_mem]
    have h : (x 0 : ℕ) < 2 := (x 0).isLt
    show (x 0 : ℕ) = 0 ∨ (x 0 : ℕ) = 1
    omega
  rw [e]
  iexists _; iexact H

/-! ## The cast block -/

theorem halves_join (c : Dev nD) : iprop(srcC m false c 0 ∗ srcC m true c 0) ⊢ bAny (F := F) c := by
  haveI : ∀ e, Nonempty (Elt F e) := fun e => inferInstance
  have h : iprop(srcC m false c 0 ∗ srcC m true c 0) ⊢ ((c : Thread nD τ).loc cc0_scratch2 ↦{fullShare} xb m c : sProp 𝕄) := by
    refine BIBase.Entails.trans ?_ (Entails.of_eq (owns_whole (c : Thread nD τ) cc0_scratch2 fullShare (xb m c)))
    refine BIBase.Entails.trans ?_ (owns_of_rects (c : Thread nD τ) bM fullShare rHalf (fun _ _ => rfl) half_disj half_cov (xb m c))
    rw [bigSep_univ_eq_bigSepL [false, true] (by decide) (by decide), bigSepL_cons_cons, bigSepL_singleton]
    exact .rfl
  refine BIBase.Entails.trans h ?_
  unfold bAny
  iintro H; iexists _; iexact H

/-! ## The buffer of maxima -/

/-- The devices by how far they stand after `c`. -/
def after (c : Dev nD) : Fin 8 ≃ Dev nD where
  toFun j := sh j.val c
  invFun i := ⟨(i.val + 8 - c.val) % 8, Nat.mod_lt _ (by decide)⟩
  left_inv j := Fin.ext (by show ((c.val + j.val) % 8 + 8 - c.val) % 8 = j.val; have := dev_lt c; omega)
  right_inv i := Fin.ext (by show (c.val + (i.val + 8 - c.val) % 8) % 8 = i.val; have := dev_lt c; have := dev_lt i; omega)

theorem list8 (P : Dev nD → sProp 𝕄) (c : Dev nD) :
    bigSep Finset.univ P = iprop(P (sh 0 c) ∗ P (sh 1 c) ∗ P (sh 2 c) ∗ P (sh 3 c) ∗ P (sh 4 c) ∗ P (sh 5 c) ∗ P (sh 6 c) ∗ P (sh 7 c)) := by
  rw [bigSep_univ_equiv (after c), bigSep_univ_eq_bigSepL [0, 1, 2, 3, 4, 5, 6, 7] (by decide) (by decide)]
  rfl

theorem ax_split (c : Dev nD) (f : Vec F S8x128 .f32) :
    ((c : Thread nD τ).loc cc0_scratch3 ↦{fullShare} f : sProp 𝕄) ⊢ iprop(rowAny (F := F) c c ∗ trav (F := F) false 0 c ∗ trav (F := F) true 0 c) := by
  refine BIBase.Entails.trans (rows_split c f) ?_
  rw [list8 _ c, sh_zero]
  unfold trav
  rw [orig_zero]
  iintro ⟨H0, H1, H2, H3, H4, H5, H6, H7⟩
  isplitl [H0]; · iexact H0
  isplitl [H1 H2 H3 H4 H5 H6 H7]
  · rw [show rowsFrom (F := F) c (7 - 0) = iprop(rowAny (F := F) c (sh 1 c) ∗ rowAny (F := F) c (sh 2 c) ∗ rowAny (F := F) c (sh 3 c)
      ∗ rowAny (F := F) c (sh 4 c) ∗ rowAny (F := F) c (sh 5 c) ∗ rowAny (F := F) c (sh 6 c) ∗ rowAny (F := F) c (sh 7 c) ∗ emp) from rfl]
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iempintro

/-- Every row is there: the device's own, whose lent pieces are back, and those of the others. -/
theorem ax_join (c : Dev nD) :
    iprop(rowC c c (restQ 7) (row m c) ∗ rowC c c (pieceQ 0) (row m c) ∗ rowC c c (pieceQ 1) (row m c) ∗ rowC c c (pieceQ 2) (row m c)
        ∗ rowC c c (pieceQ 3) (row m c) ∗ rowC c c (pieceQ 4) (row m c) ∗ rowC c c (pieceQ 5) (row m c) ∗ rowC c c (pieceQ 6) (row m c)
        ∗ rowLand m 0 c ∗ rowLand m 1 c ∗ rowLand m 2 c ∗ rowLand m 3 c ∗ rowLand m 4 c ∗ rowLand m 5 c ∗ rowLand m 6 c) ⊢ aE m c := by
  refine BIBase.Entails.trans ?_ (rows_join m c)
  rw [list8 _ c, sh_zero]
  unfold rowLand
  iintro ⟨R, P0, P1, P2, P3, P4, P5, P6, L0, L1, L2, L3, L4, L5, L6⟩
  ihave R := (row_join 6 c c (row m c)) $$ [P6 R]
  · isplitl [P6] <;> iassumption
  ihave R := (row_join 5 c c (row m c)) $$ [P5 R]
  · isplitl [P5] <;> iassumption
  ihave R := (row_join 4 c c (row m c)) $$ [P4 R]
  · isplitl [P4] <;> iassumption
  ihave R := (row_join 3 c c (row m c)) $$ [P3 R]
  · isplitl [P3] <;> iassumption
  ihave R := (row_join 2 c c (row m c)) $$ [P2 R]
  · isplitl [P2] <;> iassumption
  ihave R := (row_join 1 c c (row m c)) $$ [P1 R]
  · isplitl [P1] <;> iassumption
  ihave R := (row_join 0 c c (row m c)) $$ [P0 R]
  · isplitl [P0] <;> iassumption
  isplitl [R]; · iexact R
  isplitl [L6]; · iexact L6
  isplitl [L5]; · iexact L5
  isplitl [L4]; · iexact L4
  isplitl [L3]; · iexact L3
  isplitl [L2]; · iexact L2
  isplitl [L1]; · iexact L1
  iexact L0

/-! ## The cells of a device, one by one -/

theorem list7 (P : ℕ → sProp 𝕄) :
    (bigSep Finset.univ fun h : Fin 7 => P h.val) = iprop(P 0 ∗ P 1 ∗ P 2 ∗ P 3 ∗ P 4 ∗ P 5 ∗ P 6) := by
  rw [bigSep_univ_eq_bigSepL [0, 1, 2, 3, 4, 5, 6] (by decide) (by decide)]; rfl
theorem list5 (P : ℕ → sProp 𝕄) :
    (bigSep Finset.univ fun h : Fin 5 => P h.val) = iprop(P 0 ∗ P 1 ∗ P 2 ∗ P 3 ∗ P 4) := by
  rw [bigSep_univ_eq_bigSepL [0, 1, 2, 3, 4] (by decide) (by decide)]; rfl

end Cert.Ring8

end
-- ==== Proof.Body.lean ====
/-
The whole kernel on one device: from what the device starts with to what it ends with.
-/
module

public import proofs.«01_k».proof.Proof.PartsA
public import proofs.«01_k».proof.Proof.PartsB
public import proofs.«01_k».proof.Proof.PartsC
public import proofs.«01_k».proof.Proof.Ends

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]
local notation "𝕄" => MT nD τ sig ℕ (Elt F) ℕ UU ℕ

variable (m : (ℓ : Loc nD τ sig) → Buf (Elt F) ℓ) (K : Dev nD × KI → ℕ)

/-! ## What a device starts with and ends with -/

/-- The tokens, places and credits of one direction. -/
def dirG (d : Bool) (c : Dev nD) : sProp 𝕄 :=
  iprop((bigSep Finset.univ fun h : Fin 7 => hopT d h.val c) ∗ (bigSep Finset.univ fun h : Fin 7 => hopR d h.val c)
    ∗ (bigSep Finset.univ fun r : Fin 5 => crT d r.val c) ∗ (bigSep Finset.univ fun r : Fin 5 => crW d r.val c) ∗ crP d 0 c ∗ barT d c)
/-- All of a device's tokens, places and credits. -/
def ghost (c : Dev nD) : sProp 𝕄 :=
  iprop(dirG (F := F) false c ∗ dirG (F := F) true c ∗ barW (F := F) c ∗ (bigSep Finset.univ fun j : Fin 7 => axT (F := F) j.val c)
    ∗ (bigSep Finset.univ fun j : Fin 7 => axR (F := F) j.val c))
/-- The buffer of maxima at some contents. -/
def aAny (c : Dev nD) : sProp 𝕄 := iprop(∃ f : Vec F S8x128 .f32, (c : Thread nD τ).loc cc0_scratch3 ↦{fullShare} f)
def bodyIn (c : Dev nD) : sProp 𝕄 :=
  iprop(xE m c ∗ wE m c ∗ outE m 0 c ∗ bufAny (F := F) false c ∗ bufAny (F := F) true c ∗ bAny (F := F) c ∗ aAny (F := F) c ∗ owesE 0 c ∗ ghost (F := F) c)
/-- The counters of one group of DMA cells, all zero. -/
def zeros (j : ℕ) (c : Dev nD) : sProp 𝕄 := bigSep Finset.univ fun h : Fin 7 => semVal (dcell j h.val c) 0
def bodyOut (c : Dev nD) : sProp 𝕄 :=
  iprop(xE m c ∗ wE m c ∗ quE m 8 c ∗ bufAny (F := F) false c ∗ bufAny (F := F) true c ∗ bAny (F := F) c ∗ aAny (F := F) c ∗ owesE 33 c
    ∗ zeros (F := F) 0 c ∗ zeros (F := F) 1 c ∗ zeros (F := F) 2 c ∗ zeros (F := F) 3 c ∗ zeros (F := F) 4 c ∗ zeros (F := F) 5 c
    ∗ (semVal (ccell false c) 0 : sProp 𝕄) ∗ (semVal (ccell true c) 0 : sProp 𝕄) ∗ (semVal (bcell c) 0 : sProp 𝕄))

set_option maxRecDepth 8000 in
/-- The kernel, run from what the device starts with. -/
theorem body (c : Dev nD) {h0 : (xM : Memref sig .tc .vmem S512x4096 .f32).IsWhole} {h1 : (wM : Memref sig .tc .vmem S4096x1024 .f32).IsWhole} {h2 : (oM : Memref sig .tc .vmem S4096x1024 .f32).IsWhole}
    {h3 h4 : _} {h5 : (bM : Memref sig .tc .vmem S512x4096 .bf16).IsWhole} {h6 : (aM : Memref sig .tc .vmem S8x128 .f32).IsWhole}
    {Q : PUnit → sProp (MT nD τ sig ℕ (Elt F) ℕ UU ℕ)} :
    env m K ⊢ iprop(bodyIn m c -∗ (bodyOut m c -∗ Q ⟨⟩)
      -∗ Run c (cc0_body (F := F) xM h0 wM h1 oM h2 (Memref.whole cc0_scratch0) h3 (Memref.whole cc0_scratch1) h4 (Memref.whole cc0_scratch2) h5 (Memref.whole cc0_scratch3) h6 cc0_scratch4 cc0_scratch5 cc0_scratch6 cc0_scratch7 cc0_scratch8 cc0_scratch9 cc0_scratch10 cc0_scratch11) Q) := by
  rw [cc0_body_eq_skeleton]; unfold cc0_body_skel
  rw [k0_part31_eq_skeleton]; unfold k0_part31_skel
  simp only [Prog.lift, Prog.bind_op, Prog.bind_ret, Prog.pure_eq_ret]
  unfold bodyIn ghost dirG aAny
  have e1 := fun d => list7 fun n => hopT (F := F) d n c
  have e2 := fun d => list7 fun n => hopR (F := F) d n c
  have e3 := fun d => list5 fun n => crT (F := F) d n c
  have e4 := fun d => list5 fun n => crW (F := F) d n c
  have e5 := list7 fun n => axT (F := F) n c
  have e6 := list7 fun n => axR (F := F) n c
  have e7 := fun j => list7 fun n => (semVal (dcell j n c) 0 : sProp 𝕄)
  simp only [e1, e2, e3, e4, e5, e6]
  iintro #He ⟨Hx, Hw, HY, Hbf, Hbt, Hb, ⟨%fa, Ha⟩, HO, ⟨⟨HhTf0, HhTf1, HhTf2, HhTf3, HhTf4, HhTf5, HhTf6⟩, ⟨HhRf0, HhRf1, HhRf2, HhRf3, HhRf4, HhRf5, HhRf6⟩, ⟨HcrTf0, HcrTf1, HcrTf2, HcrTf3, HcrTf4⟩, ⟨HcrWf0, HcrWf1, HcrWf2, HcrWf3, HcrWf4⟩, HcrPf0, HbTf⟩, ⟨⟨HhTt0, HhTt1, HhTt2, HhTt3, HhTt4, HhTt5, HhTt6⟩, ⟨HhRt0, HhRt1, HhRt2, HhRt3, HhRt4, HhRt5, HhRt6⟩, ⟨HcrTt0, HcrTt1, HcrTt2, HcrTt3, HcrTt4⟩, ⟨HcrWt0, HcrWt1, HcrWt2, HcrWt3, HcrWt4⟩, HcrPt0, HbTt⟩, HbW, ⟨HaT0, HaT1, HaT2, HaT3, HaT4, HaT5, HaT6⟩, ⟨HaR0, HaR1, HaR2, HaR3, HaR4, HaR5, HaR6⟩⟩ Hk
  ihave Hs := (slots_split_f c) $$ Hbf; icases Hs with ⟨Hslf0, Hslf1⟩
  ihave Hs := (slots_split_t c) $$ Hbt; icases Hs with ⟨Hslt0, Hslt1⟩
  ihave Hs := (ax_split c fa) $$ Ha; icases Hs with ⟨Hra, Htrf0, Htrt0⟩
  iapply (run_bind c)
  iapply (run_bind c)
  iapply (part1 m K c) $$ He HbTf Hslf0 Hslf1 HO HbTt Hslt0 Hslt1 HbW Hx Hb
  iintro %v2 %v5 %v7 ⟨HO, Hsvb, Hnsf0, Hnsf1, Hnst0, Hnst1, #Hrcf0, #Hrct0, Hx, Hsrcf0, Hsrct0⟩
  iapply (run_bind c)
  iapply (part2 m K c _ _) $$ He Hsrcf0 Hnsf1 Hrcf0 Htrf0 HhTf0 HO Hsrct0 Hnst1 Hrct0 Htrt0 HhTt0 Hx Hw HY
  iintro  ⟨#Hrcf0, HhWf0, #Hrct0, HO, HhWt0, Hx, Hw, HY⟩
  iapply (run_bind c)
  iapply (part3 m K c _ _) $$ He HhWf0 HO HhRf0 HhWt0 HhRt0
  iintro  ⟨HsvSf0, Hsrcf0, HsvRf0, Hsrcf1, Hrtf1, #Hrpf0, Htrf1, Hgotf0, HsvSt0, Hsrct0, HO, HsvRt0, Hsrct1, Hrtt1, #Hrpt0, Htrt1, Hgott0⟩
  iapply (run_bind c)
  iapply (part4 m K c _ _) $$ He Hsrcf1 Hnsf0 Hrcf0 Htrf1 HhTf1 HO Hsrct1 Hnst0 Hrct0 Htrt1 HhTt1 Hrtf1 Hw HY
  iintro %v100 ⟨#Hrcf0, HhWf1, #Hrct0, HO, HhWt1, Hrtf1, Hw, HY⟩
  iapply (run_bind c)
  iapply (part5 m K c _ _) $$ He HY Hrtt1 Hw HhWf1 Hrtf1 HO
  iintro  ⟨Hrtt1, Hw, HY, HO, HsvSf1, Hslf1⟩
  iapply (run_bind c)
  iapply (part6 m K c _ _) $$ He HhRf1 HO HhWt1 Hrtt1 HhRt1 HcrTf0 Hslf1 HcrTt0 HcrWf0 HcrPf0
  iintro  ⟨HsvRf1, Hsrcf2, Hrtf2, #Hrpf0, Htrf2, Hgotf1, HsvSt1, HsvRt1, Hsrct2, Hrtt2, #Hrpt0, Htrt2, Hgott1, HO, HcrPf1, #Hrcf1, Hnsf1⟩
  iapply (run_bind c)
  iapply (part7 m K c _ _ _) $$ He HcrWt0 HO HcrPt0 Hsrcf2 Hnsf1 Hrcf1 Htrf2 HhTf2 Hsrct2 Htrt2 HhTt2 Hrtf2
  iintro %v186 %v188 ⟨HcrPt1, #Hrct1, #Hrcf1, HhWf2, HO, HhWt2, Hrtf2⟩
  iapply (run_bind c)
  iapply (part8 m K c _ _) $$ He Hw HY Hrtt2
  iintro  ⟨Hrtt2, Hw, HY⟩
  iapply (run_bind c)
  iapply (part9 m K c _ _) $$ He HhWf2 Hrtf2 HO HhRf2 HhWt2 Hrtt2 HhRt2
  iintro  ⟨HsvSf2, Hslf0, HsvRf2, Hsrcf3, Hrtf3, #Hrpf1, Htrf3, Hgotf2, HsvSt2, Hslt0, HO, HsvRt2, Hsrct3, Hrtt3, #Hrpt1, Htrt3, Hgott2⟩
  iapply (run_bind c)
  iapply (part10 m K c _ _) $$ He Hrpf1 HcrTf1 Hslf0 HO Hrpt1 HcrTt1 Hslt0 HcrWf1 HcrPf1 HcrWt1 HcrPt1 Hsrcf3 Htrf3 HhTf3 Hsrct3 Htrt3 HhTt3
  iintro %v ⟨#Hrpf1, #Hrpt1, HcrPf2, #Hrcf2, HcrPt2, #Hrct2, HhWf3, HO, HhWt3⟩
  iapply (run_bind c)
  iapply (part11 m K c _ _) $$ He Hrtf3 Hw HY Hrtt3
  iintro  ⟨Hrtf3, Hrtt3, Hw, HY⟩
  iapply (run_bind c)
  iapply (part12 m K c _ _) $$ He HhWf3 Hrtf3 HO HhRf3 HhWt3 Hrtt3
  iintro %v328 ⟨HsvSf3, Hslf1, HsvRf3, Hsrcf4, Hrtf4, #Hrpf2, Htrf4, Hgotf3, HO, HsvSt3, Hslt1⟩
  iapply (run_bind c)
  iapply (part13 m K c _ _ _) $$ He HhRt3 HO Hrpf2 HcrTf2 Hslf1 HcrTt2 Hslt1 HcrWf2 HcrPf2 HcrWt2 HcrPt2 Hsrcf4 Htrf4 HhTf4
  iintro  ⟨HsvRt3, Hsrct4, Hrtt4, #Hrpt2, Htrt4, Hgott3, #Hrpf2, HcrPf3, #Hrcf3, HcrPt3, #Hrct3, Hnst1, HO, HhWf4⟩
  iapply (run_bind c)
  iapply (part14 m K c _) $$ He Hsrct4 Hnst1 Hrct3 Htrt4 HhTt4 HO Hrtf4 Hw HY Hrtt4
  iintro %v383 ⟨#Hrct3, HO, HhWt4, Hrtf4, Hw, HY, Hrtt4⟩
  iapply (run_bind c)
  iapply (part15 m K c _ _) $$ He Hw HY HhWf4 Hrtf4 HO HhRf4
  iintro  ⟨Hw, HY, HsvSf4, Hslf0, HO, HsvRf4, Hsrcf5, Hrtf5, #Hrpf3, Htrf5, Hgotf4⟩
  iapply (run_bind c)
  iapply (part16 m K c _ _) $$ He HhWt4 Hrtt4 HO HhRt4 Hrpf3 HcrTf3 Hslf0 HcrTt3 HcrWf3 HcrPf3 HcrWt3 HcrPt3
  iintro  ⟨HsvSt4, HsvRt4, Hsrct5, Hrtt5, #Hrpt3, Htrt5, Hgott4, #Hrpf3, HcrPf4, #Hrcf4, Hnsf0, HO, HcrPt4, #Hrct4, Hnst0⟩
  iapply (run_bind c)
  iapply (part17 m K c _ _) $$ He Hsrcf5 Hnsf0 Hrcf4 Htrf5 HhTf5 HO Hsrct5 Hnst0 Hrct4 Htrt5 HhTt5 Hrtf5 Hw HY
  iintro %v452 ⟨#Hrcf4, HhWf5, #Hrct4, HO, HhWt5, Hrtf5, Hw, HY⟩
  iapply (run_bind c)
  iapply (part18 m K c _ _) $$ He Hrtt5 Hw HY HhWf5 Hrtf5 HO
  iintro  ⟨Hrtt5, Hw, HY, HO, HsvSf5, Hslf1⟩
  iapply (run_bind c)
  iapply (part19 m K c _ _) $$ He HhRf5 HO HhWt5 Hrtt5 HhRt5 HcrTf4 Hslf1 HcrTt4 HcrWf4 HcrPf4 HcrWt4 HcrPt4
  iintro  ⟨HsvRf5, Hsrcf6, Hrtf6, #Hrpf4, Htrf6, Hgotf5, HsvSt5, HsvRt5, Hsrct6, Hrtt6, #Hrpt4, Htrt6, Hgott5, HcrPf5, #Hrcf5, Hnsf1, HO, HcrPt5, #Hrct5, Hnst1⟩
  iapply (run_bind c)
  iapply (part20 m K c _ _ _) $$ He Hsrcf6 Hnsf1 Hrcf5 Htrf6 HhTf6 HO Hsrct6 Hnst1 Hrct5 Htrt6 HhTt6 Hrtf6
  iintro %v540 %v543 ⟨#Hrcf5, HhWf6, #Hrct5, HO, HhWt6, Hrtf6⟩
  iapply (run_bind c)
  iapply (part21 m K c _ _) $$ He Hw HY Hrtt6
  iintro  ⟨Hrtt6, Hw, HY⟩
  iapply (run_bind c)
  iapply (part22 m K c _ _ _) $$ He HhWf6 Hrtf6 HO HhRf6 HhWt6 Hrtt6 HhRt6
  iintro %v601 %v ⟨HsvSf6, Hslf0, HsvRf6, Hsrcf7, Hrtf7, #Hrpf5, Htrf7, Hgotf6, HsvSt6, Hslt0, HO, HsvRt6, Hsrct7, Hrtt7, #Hrpt5, Htrt7, Hgott6⟩
  iapply (run_bind c)
  iapply (part23 m K c _ _ _) $$ He Hrtf7 Hw HY Hrtt7
  iintro  ⟨Hrtf7, Hrtt7, Hw, HY⟩
  iapply (run_bind c)
  iapply (part24 m K c _) $$ He Hra Hgotf6 HaT0 HO Hgotf5 HaT1
  iintro %v642 %v652 %v662 ⟨HaW0, HO, HaW1, Hrow2⟩
  iapply (run_bind c)
  iapply (part25 m K c _) $$ He Hrow2 Hgotf4 HaT2 HO Hgotf3 HaT3 Hgotf2 HaT4 Hgotf1 HaT5
  iintro %v672 %v682 %v692 ⟨HaW2, HaW3, HaW4, HO, HaW5, Hrow6⟩
  iapply (run_bind c)
  iapply (part26 m K c _ _ _) $$ He Hrow6 Hgotf0 HaT6 HO HaW0 HaR0 HaW1
  iintro %v702 ⟨HaW6, Hrow7, Hsvx0, Hpc0, Hsvy0, Hland0, HO, Hsvx1, Hpc1⟩
  iapply (run_bind c)
  iapply (part27 m K c _ _) $$ He HaR1 HO HaW2 HaR2 HaW3 HaR3
  iintro  ⟨Hsvy1, Hland1, Hsvx2, Hpc2, Hsvy2, Hland2, Hsvx3, Hpc3, HO, Hsvy3, Hland3⟩
  iapply (run_bind c)
  iapply (part28 m K c _ _ _) $$ He HaW4 HO HaR4 HaW5 HaR5 HaW6 HaR6
  iintro  ⟨Hsvx4, Hpc4, Hsvy4, Hland4, Hsvx5, Hpc5, Hsvy5, Hland5, Hsvx6, Hpc6, HO, Hsvy6, Hland6⟩
  ihave HaE := (ax_join m c) $$ [Hrow7 Hpc0 Hpc1 Hpc2 Hpc3 Hpc4 Hpc5 Hpc6 Hland0 Hland1 Hland2 Hland3 Hland4 Hland5 Hland6]
  · isplitl [Hrow7]; · iexact Hrow7
    isplitl [Hpc0]; · iexact Hpc0
    isplitl [Hpc1]; · iexact Hpc1
    isplitl [Hpc2]; · iexact Hpc2
    isplitl [Hpc3]; · iexact Hpc3
    isplitl [Hpc4]; · iexact Hpc4
    isplitl [Hpc5]; · iexact Hpc5
    isplitl [Hpc6]; · iexact Hpc6
    isplitl [Hland0]; · iexact Hland0
    isplitl [Hland1]; · iexact Hland1
    isplitl [Hland2]; · iexact Hland2
    isplitl [Hland3]; · iexact Hland3
    isplitl [Hland4]; · iexact Hland4
    isplitl [Hland5]; · iexact Hland5
    iexact Hland6
  ihave HY := (quE_start m c) $$ HY
  iapply (run_bind c)
  iapply (part29 m K c) $$ He HaE HY
  iintro  ⟨HaE, HY⟩
  iapply (run_bind c)
  iapply (part30 m K c) $$ He HY
  iintro  HY
  iapply (ld_q m 5 (by decide) c rfl) $$ HY; iintro HY
  iapply (st_q m 5 6 rfl (by decide) c rfl rfl) $$ HY; iintro HY
  iapply (ld_q m 6 (by decide) c rfl) $$ HY; iintro HY
  iapply (ld_q m 6 (by decide) c rfl) $$ HY; iintro HY
  iapply (st_q m 6 7 rfl (by decide) c rfl rfl) $$ HY; iintro HY
  iapply (ld_q m 7 (by decide) c rfl) $$ HY; iintro HY
  iapply (run_ret c)
  iapply (ld_q m 7 (by decide) c rfl) $$ HY; iintro HY
  iapply (st_q m 7 8 rfl (by decide) c rfl rfl) $$ HY; iintro HY
  iapply (run_ret_upd c)
  unfold crP
  imod (close_c m K false c) $$ He HcrPf5 with HZf
  ihave Hs := (slot_join false 1 c _ _) $$ [Hsrcf7 Hrtf7]
  · isplitl [Hsrcf7]; · iapply (srcC_slot m false c 6); iexact Hsrcf7
    iexact Hrtf7
  ihave HBf := (slots_join_f c) $$ [Hslf0 Hs]
  · isplitl [Hslf0] <;> iassumption
  imod (close_c m K true c) $$ He HcrPt5 with HZt
  ihave Hs := (slot_join true 1 c _ _) $$ [Hsrct7 Hrtt7]
  · isplitl [Hsrct7]; · iapply (srcC_slot m true c 6); iexact Hsrct7
    iexact Hrtt7
  ihave HBt := (slots_join_t c) $$ [Hslt0 Hs]
  · isplitl [Hslt0] <;> iassumption
  ihave Hb := (halves_join m c) $$ [Hsrcf0 Hsrct0]
  · isplitl [Hsrcf0] <;> iassumption
  imodintro; iapply Hk
  unfold bodyOut zeros aE aAny
  simp only [e7]
  isplitl [Hx]; · iexact Hx
  isplitl [Hw]; · iexact Hw
  isplitl [HY]; · iexact HY
  isplitl [HBf]; · iexact HBf
  isplitl [HBt]; · iexact HBt
  isplitl [Hb]; · iexact Hb
  isplitl [HaE]; · iexists _; iexact HaE
  isplitl [HO]; · iexact HO
  isplitl [HsvSf0 HsvSf1 HsvSf2 HsvSf3 HsvSf4 HsvSf5 HsvSf6]
  · isplitl [HsvSf0]; · iexact HsvSf0
    isplitl [HsvSf1]; · iexact HsvSf1
    isplitl [HsvSf2]; · iexact HsvSf2
    isplitl [HsvSf3]; · iexact HsvSf3
    isplitl [HsvSf4]; · iexact HsvSf4
    isplitl [HsvSf5]; · iexact HsvSf5
    iexact HsvSf6
  isplitl [HsvRf0 HsvRf1 HsvRf2 HsvRf3 HsvRf4 HsvRf5 HsvRf6]
  · isplitl [HsvRf0]; · iexact HsvRf0
    isplitl [HsvRf1]; · iexact HsvRf1
    isplitl [HsvRf2]; · iexact HsvRf2
    isplitl [HsvRf3]; · iexact HsvRf3
    isplitl [HsvRf4]; · iexact HsvRf4
    isplitl [HsvRf5]; · iexact HsvRf5
    iexact HsvRf6
  isplitl [HsvSt0 HsvSt1 HsvSt2 HsvSt3 HsvSt4 HsvSt5 HsvSt6]
  · isplitl [HsvSt0]; · iexact HsvSt0
    isplitl [HsvSt1]; · iexact HsvSt1
    isplitl [HsvSt2]; · iexact HsvSt2
    isplitl [HsvSt3]; · iexact HsvSt3
    isplitl [HsvSt4]; · iexact HsvSt4
    isplitl [HsvSt5]; · iexact HsvSt5
    iexact HsvSt6
  isplitl [HsvRt0 HsvRt1 HsvRt2 HsvRt3 HsvRt4 HsvRt5 HsvRt6]
  · isplitl [HsvRt0]; · iexact HsvRt0
    isplitl [HsvRt1]; · iexact HsvRt1
    isplitl [HsvRt2]; · iexact HsvRt2
    isplitl [HsvRt3]; · iexact HsvRt3
    isplitl [HsvRt4]; · iexact HsvRt4
    isplitl [HsvRt5]; · iexact HsvRt5
    iexact HsvRt6
  isplitl [Hsvx0 Hsvx1 Hsvx2 Hsvx3 Hsvx4 Hsvx5 Hsvx6]
  · isplitl [Hsvx0]; · iexact Hsvx0
    isplitl [Hsvx1]; · iexact Hsvx1
    isplitl [Hsvx2]; · iexact Hsvx2
    isplitl [Hsvx3]; · iexact Hsvx3
    isplitl [Hsvx4]; · iexact Hsvx4
    isplitl [Hsvx5]; · iexact Hsvx5
    iexact Hsvx6
  isplitl [Hsvy0 Hsvy1 Hsvy2 Hsvy3 Hsvy4 Hsvy5 Hsvy6]
  · isplitl [Hsvy0]; · iexact Hsvy0
    isplitl [Hsvy1]; · iexact Hsvy1
    isplitl [Hsvy2]; · iexact Hsvy2
    isplitl [Hsvy3]; · iexact Hsvy3
    isplitl [Hsvy4]; · iexact Hsvy4
    isplitl [Hsvy5]; · iexact Hsvy5
    iexact Hsvy6
  isplitl [HZf]; · iexact HZf
  isplitl [HZt]; · iexact HZt
  iexact Hsvb

end Cert.Ring8

end
-- ==== Proof.Deal.lean ====
/-
How the launch's tokens and credits are dealt: each cell's tokens go to the devices that pay it, and each device gets the credits of
the waits it will make.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (m : (ℓ : Loc nD τ sig) → Buf (Elt F) ℓ)

/-! ## The cells -/

theorem ownSemFacts : Pipeline.OwnSemFacts cfg0.spec osem := by decide +kernel

theorem csem_injective : Function.Injective csem := by decide +kernel
theorem kcell_injective : Function.Injective (kcell : Dev nD × KI → GSem nD τ sig) := by
  rintro ⟨c, k⟩ ⟨c', k'⟩ h
  obtain rfl : c = c' := congrArg (fun g : GSem nD τ sig => g.1.1) h
  obtain rfl : k = k' := csem_injective (congrArg Prod.snd h)
  rfl
def cells8 : Finset (GSem nD τ sig) := Finset.univ.map ⟨kcell, kcell_injective⟩

/-! ## The tokens -/

/-- A device's tokens: of its send and landing cells, of its credit cells' rounds, of its barrier cell, and of the two groups of the
    exchange of maxima. -/
abbrev TI : Type := (Bool × Fin 7) ⊕ ((Bool × Fin 7) ⊕ ((Bool × Fin 5) ⊕ (Bool ⊕ (Fin 7 ⊕ Fin 7))))
/-- A token's cell, round and duty. -/
def tokS : TI → SemLoc sig × ℕ × Bool
  | .inl x => (.dma (dq (jS x.1) x.2.val), 0, false)
  | .inr (.inl x) => (.dma (dq (jR x.1) x.2.val), 0, false)
  | .inr (.inr (.inl x)) => (.reg (crS x.1), x.2.val, false)
  | .inr (.inr (.inr (.inl d))) => (.reg barS, 0, d)
  | .inr (.inr (.inr (.inr (.inl j)))) => (.dma (dq 4 j.val), 0, false)
  | .inr (.inr (.inr (.inr (.inr j)))) => (.dma (dq 5 j.val), 0, false)
/-- How far from the device that pays stands the device whose cell is paid. -/
def tokK : TI → ℕ
  | .inl _ => 0
  | .inr (.inl x) => toK x.1
  | .inr (.inr (.inl x)) => frK x.1
  | .inr (.inr (.inr (.inl d))) => frK d
  | .inr (.inr (.inr (.inr (.inl _)))) => 0
  | .inr (.inr (.inr (.inr (.inr j)))) => j.val + 1
def tokOf (x : Dev nD × TI) : GSem nD τ sig × ℕ × Bool := (((x.1 : Thread nD τ), (tokS x.2).1), (tokS x.2).2)
theorem tokS_injective : Function.Injective tokS := by decide +kernel
theorem tokOf_injective : Function.Injective (tokOf : Dev nD × TI → GSem nD τ sig × ℕ × Bool) := by
  rintro ⟨c, i⟩ ⟨c', i'⟩ h
  obtain rfl : c = c' := congrArg (fun x : GSem nD τ sig × ℕ × Bool => x.1.1.1) h
  obtain rfl : i = i' := tokS_injective (congrArg (fun x : GSem nD τ sig × ℕ × Bool => (x.1.2, x.2)) h)
  rfl
def toks8 : Finset (GSem nD τ sig × ℕ × Bool) := Finset.univ.map ⟨tokOf, tokOf_injective⟩

def tok (i : TI) (c : Dev nD) : sProp 𝕄 := dutyTok ER ((c : Thread nD τ), (tokS i).1) (tokS i).2.1 (tokS i).2.2
/-- The tokens of device `c`'s cells; and those of the duties it pays. -/
def minted (c : Dev nD) : sProp 𝕄 := bigSep Finset.univ fun i : TI => tok (F := F) i c
def paid (c : Dev nD) : sProp 𝕄 := bigSep Finset.univ fun i : TI => tok (F := F) i (sh (tokK i) c)

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl

theorem deal : (bigSep Finset.univ fun c : Dev nD => minted (F := F) c) = bigSep Finset.univ fun c : Dev nD => paid (F := F) c := by
  unfold minted paid
  rw [swap, swap fun (c : Dev nD) (i : TI) => tok (F := F) i (sh (tokK i) c)]
  exact bigSep_congr fun i _ => bigSep_univ_equiv (shE (tokK i)) fun c => tok (F := F) i c

theorem bool2 (Φ : Bool → sProp 𝕄) : bigSep Finset.univ Φ = iprop(Φ false ∗ Φ true) := bigSep_univ_eq_bigSepL [false, true] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem one1 (Φ : Unit → sProp 𝕄) : bigSep Finset.univ Φ = Φ () := bigSep_univ_eq_bigSepL [()] (by decide) (by decide) Φ

theorem paid_eq (c : Dev nD) : paid (F := F) c = iprop(
    ((bigSep Finset.univ fun h : Fin 7 => dutyTok ER (dcell (jS false) h.val c) 0 false) ∗ (bigSep Finset.univ fun h : Fin 7 => dutyTok ER (dcell (jS true) h.val c) 0 false))
    ∗ ((bigSep Finset.univ fun h : Fin 7 => dutyTok ER (dcell (jR false) h.val (nx false c)) 0 false) ∗ (bigSep Finset.univ fun h : Fin 7 => dutyTok ER (dcell (jR true) h.val (nx true c)) 0 false))
    ∗ ((bigSep Finset.univ fun r : Fin 5 => dutyTok ER (ccell false (pv false c)) r.val false) ∗ (bigSep Finset.univ fun r : Fin 5 => dutyTok ER (ccell true (pv true c)) r.val false))
    ∗ (dutyTok ER (bcell (pv false c)) 0 false ∗ dutyTok ER (bcell (pv true c)) 0 true)
    ∗ (bigSep Finset.univ fun j : Fin 7 => dutyTok ER (dcell 4 j.val c) 0 false)
    ∗ (bigSep Finset.univ fun j : Fin 7 => dutyTok ER (dcell 5 j.val (sh (j.val + 1) c)) 0 false)) := by
  unfold paid
  rw [bigSep_univ_sum, bigSep_univ_sum, bigSep_univ_sum, bigSep_univ_sum, bigSep_univ_sum, bigSep_univ_prod, bigSep_univ_prod, bigSep_univ_prod,
    bool2, bool2, bool2, bool2]
  unfold tok tokK tokS
  simp only [sh_zero]
  rfl

/-- A property of every cell of a device, by its groups. -/
theorem cells_eq (P : SemLoc sig → sProp 𝕄) : (bigSep Finset.univ fun k : KI => P (csem k)) = iprop(
    (((bigSep Finset.univ fun h : Fin 7 => P (.dma (dq 0 h.val))) ∗ (bigSep Finset.univ fun h : Fin 7 => P (.dma (dq 1 h.val)))
      ∗ (bigSep Finset.univ fun h : Fin 7 => P (.dma (dq 2 h.val))) ∗ (bigSep Finset.univ fun h : Fin 7 => P (.dma (dq 3 h.val)))
      ∗ (bigSep Finset.univ fun h : Fin 7 => P (.dma (dq 4 h.val))) ∗ (bigSep Finset.univ fun h : Fin 7 => P (.dma (dq 5 h.val))))
      ∗ (P (.reg (crS false)) ∗ P (.reg (crS true)))) ∗ P (.reg barS)) := by
  rw [bigSep_univ_sum, bigSep_univ_sum, bigSep_univ_prod, six, bool2, one1]; rfl

/-! ## The credits -/

/-- The credits that a list of payments, made by every device, gives each device. -/
def credL (c : Dev nD) : List Due → sProp 𝕄
  | [] => iprop(emp)
  | x :: l => iprop(credL c l ∗ cred (tallyAt ((c : Thread nD τ), x.s) x.ι (unitsOf x.n)))
theorem credL_intro (c : Dev nD) (l : List Due) : (Pipeline.launchCred (fun d => oweL d l) c : sProp 𝕄) ⊢ credL c l := by
  induction l with
  | nil => exact Entails.of_eq (Pipeline.launchCred_zero c)
  | cons x l ih =>
    refine BIBase.Entails.trans (Entails.of_eq (Pipeline.launchCred_add (fun d => oweL d l) (fun d => tallyAt ((sh x.k d : Thread nD τ), x.s) x.ι (unitsOf x.n)) c)) ?_
    unfold credL
    iintro ⟨H1, H2⟩
    isplitl [H1]
    · iapply ih; iexact H1
    · iapply (Pipeline.launchCred_tallyAt x.s (sh x.k) (sh (8 - x.k % 8)) (fun c => sh_back (by omega) c) (fun c => sh_back (by omega) c) x.ι (unitsOf x.n) c)
      iexact H2

/-- The credits of a device's waits. -/
def credits (c : Dev nD) : sProp 𝕄 :=
  iprop((bigSep Finset.univ fun h : Fin 7 => cred (tallyAt (dcell (jR false) h.val c) 0 (amtD (jR false))))
    ∗ (bigSep Finset.univ fun h : Fin 7 => cred (tallyAt (dcell (jR true) h.val c) 0 (amtD (jR true))))
    ∗ (bigSep Finset.univ fun r : Fin 5 => cred (tallyAt (ccell false c) r.val 1)) ∗ (bigSep Finset.univ fun r : Fin 5 => cred (tallyAt (ccell true c) r.val 1))
    ∗ cred (tallyAt (bcell c) 0 2) ∗ (bigSep Finset.univ fun j : Fin 7 => cred (tallyAt (dcell 5 j.val c) 0 (amtD 5))))

theorem credits_of (c : Dev nD) : credL (F := F) c dues ⊢ credits c := by
  unfold credits
  have e1 := fun d => list7 fun n => (cred (tallyAt (dcell (jR d) n c) 0 (amtD (jR d))) : sProp 𝕄)
  have e2 := fun d => list5 fun n => (cred (tallyAt (ccell d c) n 1) : sProp 𝕄)
  have e3 := list7 fun n => (cred (tallyAt (dcell 5 n c) 0 (amtD 5)) : sProp 𝕄)
  simp only [e1, e2, e3]
  unfold dues hopDues crDues
  simp only [List.cons_append, List.nil_append, credL]
  iintro ⟨⟨⟨⟨⟨⟨⟨⟨⟨⟨⟨⟨⟨⟨⟨⟨⟨⟨⟨⟨⟨⟨⟨⟨⟨⟨⟨⟨⟨⟨⟨⟨⟨-, X6⟩, X5⟩, X4⟩, X3⟩, X2⟩, X1⟩, X0⟩, Rt6⟩, Rf6⟩, Ct4⟩, Cf4⟩, Rt5⟩, Rf5⟩, Ct3⟩, Cf3⟩, Rt4⟩, Rf4⟩, Ct2⟩, Cf2⟩, Rt3⟩, Rf3⟩, Ct1⟩, Cf1⟩, Rt2⟩, Rf2⟩, Ct0⟩, Cf0⟩, Rt1⟩, Rf1⟩, Rt0⟩, Rf0⟩, B1⟩, B0⟩
  ihave B := (cred_add (tallyAt (bcell c) 0 1) (tallyAt (bcell c) 0 1)).2 $$ [B0 B1]
  · isplitl [B0]; · iexact B0
    iexact B1
  rw [tallyAt_add]
  isplitl [Rf0 Rf1 Rf2 Rf3 Rf4 Rf5 Rf6]
  · isplitl [Rf0]
    · iexact Rf0
    isplitl [Rf1]
    · iexact Rf1
    isplitl [Rf2]
    · iexact Rf2
    isplitl [Rf3]
    · iexact Rf3
    isplitl [Rf4]
    · iexact Rf4
    isplitl [Rf5]
    · iexact Rf5
    iexact Rf6
  isplitl [Rt0 Rt1 Rt2 Rt3 Rt4 Rt5 Rt6]
  · isplitl [Rt0]
    · iexact Rt0
    isplitl [Rt1]
    · iexact Rt1
    isplitl [Rt2]
    · iexact Rt2
    isplitl [Rt3]
    · iexact Rt3
    isplitl [Rt4]
    · iexact Rt4
    isplitl [Rt5]
    · iexact Rt5
    iexact Rt6
  isplitl [Cf0 Cf1 Cf2 Cf3 Cf4]
  · isplitl [Cf0]
    · iexact Cf0
    isplitl [Cf1]
    · iexact Cf1
    isplitl [Cf2]
    · iexact Cf2
    isplitl [Cf3]
    · iexact Cf3
    iexact Cf4
  isplitl [Ct0 Ct1 Ct2 Ct3 Ct4]
  · isplitl [Ct0]
    · iexact Ct0
    isplitl [Ct1]
    · iexact Ct1
    isplitl [Ct2]
    · iexact Ct2
    isplitl [Ct3]
    · iexact Ct3
    iexact Ct4
  isplitl [B]
  · iexact B
  isplitl [X0]
  · iexact X0
  isplitl [X1]
  · iexact X1
  isplitl [X2]
  · iexact X2
  isplitl [X3]
  · iexact X3
  isplitl [X4]
  · iexact X4
  isplitl [X5]
  · iexact X5
  iexact X6

theorem credits_intro (c : Dev nD) : (Pipeline.launchCred (owe 0) c : sProp 𝕄) ⊢ credits c :=
  BIBase.Entails.trans (credL_intro c dues) (credits_of c)

/-! ## What a device starts with -/

def places (c : Dev nD) : sProp 𝕄 := bigSep Finset.univ fun k : KI => atPos ER ((c : Thread nD τ), csem k) 0 ∅ 0

theorem ghost_of (c : Dev nD) : iprop(paid (F := F) c ∗ places (F := F) c ∗ credits (F := F) c) ⊢ ghost c := by
  unfold places credits
  rw [paid_eq, cells_eq fun s => (atPos ER ((c : Thread nD τ), s) 0 ∅ 0 : sProp 𝕄)]
  unfold ghost dirG hopT hopR axT axR crT crW crP barT barW
  simp only [bigSep_sep']
  iintro ⟨⟨⟨T1f, T1t⟩, ⟨T2f, T2t⟩, ⟨T3f, T3t⟩, ⟨T4f, T4t⟩, T5, T6⟩, ⟨⟨⟨P1f, P2f, P1t, P2t, P4, P5⟩, ⟨Pcf, Pct⟩⟩, PB⟩, ⟨Cf, Ct, Kf, Kt, CB, CX⟩⟩
  isplitl [T1f T2f P1f Cf P2f T3f Kf Pcf T4f]
  · isplitl [T1f T2f P1f]
    · isplitl [T1f]
      · iexact T1f
      isplitl [T2f]
      · iexact T2f
      iexact P1f
    isplitl [Cf P2f]
    · isplitl [Cf]
      · iexact Cf
      iexact P2f
    isplitl [T3f]
    · iexact T3f
    isplitl [Kf]
    · iexact Kf
    isplitl [Pcf]
    · iexact Pcf
    iexact T4f
  isplitl [T1t T2t P1t Ct P2t T3t Kt Pct T4t]
  · isplitl [T1t T2t P1t]
    · isplitl [T1t]
      · iexact T1t
      isplitl [T2t]
      · iexact T2t
      iexact P1t
    isplitl [Ct P2t]
    · isplitl [Ct]
      · iexact Ct
      iexact P2t
    isplitl [T3t]
    · iexact T3t
    isplitl [Kt]
    · iexact Kt
    isplitl [Pct]
    · iexact Pct
    iexact T4t
  isplitl [CB PB]
  · isplitl [CB]
    · iexact CB
    iexact PB
  isplitl [T5 T6 P4]
  · isplitl [T5]
    · iexact T5
    isplitl [T6]
    · iexact T6
    iexact P4
  isplitl [CX]
  · iexact CX
  iexact P5

end Cert.Ring8

end
-- ==== Proof.Run.lean ====
/-
The launch: from a memory with zero counters every run ends, the arguments hold what they held, every device's result array holds its
quantised block, and every counter is zero.
-/
module

public import proofs.«01_k».proof.Proof.Deal
public import proofs.«01_k».proof.Proof.Gen.KernelIdeal.Points
public import Idealize.ShloMosaic.Lib.Pipeline.CollectiveSegs

@[expose] public section

noncomputable section

namespace Cert.Ring8

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig ℕ (Elt F) ℕ UU ℕ

variable (m : (ℓ : Loc nD τ sig) → Buf (Elt F) ℓ) (ρ : Dev nD → PrngReg)

/-! ## The pipeline's data -/

/-- The kernel's four buffers at any contents. -/
def scratch (c : Dev nD) : sProp 𝕄 := iprop(bufAny (F := F) false c ∗ bufAny (F := F) true c ∗ bAny (F := F) c ∗ aAny (F := F) c)
def start (c : Dev nD) : sProp 𝕄 := iprop((∃ K, env m K) ∗ ghost (F := F) c)
def Φ₀ (c : Dev nD) : sProp 𝕄 := iprop(start m c ∗ scratch (F := F) c)
def Φ₁ (c : Dev nD) : sProp 𝕄 :=
  iprop(scratch (F := F) c ∗ zeros (F := F) 0 c ∗ zeros (F := F) 1 c ∗ zeros (F := F) 2 c ∗ zeros (F := F) 3 c ∗ zeros (F := F) 4 c ∗ zeros (F := F) 5 c
    ∗ (semVal (ccell false c) 0 : sProp 𝕄) ∗ (semVal (ccell true c) 0 : sProp 𝕄) ∗ (semVal (bcell c) 0 : sProp 𝕄))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => zT m c
  Φ t := match t with
    | ⟨0, _⟩ => Φ₀ m c
    | ⟨_ + 1, _⟩ => Φ₁ (F := F) c
  q _ := fullShare
  owed t := match t with
    | ⟨0, _⟩ => owe 0 c
    | ⟨_ + 1, _⟩ => 0

abbrev pt : Fin cfg0.N := t0_0
theorem before_x (c : Dev nD) (d) : (dats m ρ 0 c).before (0 : Fin 3) pt d = xs m c := by
  unfold Dat.before; rw [if_pos (fetch0_0 pt)]; rfl
theorem before_w (c : Dev nD) (d) : (dats m ρ 0 c).before (1 : Fin 3) pt d = ws m c := by
  unfold Dat.before; rw [if_pos (fetch0_1 pt)]; rfl

theorem owns_all (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
def before (c : Dev nD) : sProp 𝕄 :=
  iprop(Φ₀ m c ∗ (dats m ρ 0 c).owesAt 0 pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))
def afterwards (c : Dev nD) : sProp 𝕄 :=
  iprop(Φ₁ (F := F) c ∗ (dats m ρ 0 c).owesAt 0 pt.succ ∗ stg c cc0_stg0_0 (xs m c) ∗ stg c cc0_stg1_0 (ws m c) ∗ stg c cc0_stg2_0 (zT m c))

theorem in_of (c : Dev nD) : before m ρ c ⊢ iprop((∃ K, env m K) ∗ bodyIn m c) := by
  unfold before Φ₀ start scratch bodyIn Dat.owesAt Pipeline.owesWithin owesE xE wE outE
  iintro ⟨⟨⟨HK, Hg⟩, Hf, Ht, Hb, Ha⟩, ⟨%W, %hW, HO⟩, ⟨%d0, %g0, %h0, Hx⟩, ⟨%d1, %g1, %h1, Hw⟩, ⟨%d2, %g2, %h2, Ho⟩⟩
  rw [before_x m ρ c d0] at h0
  rw [before_w m ρ c d1] at h1
  subst h0; subst h1
  isplitl [HK]; · iexact HK
  isplitl [Hx]; · iexact Hx
  isplitl [Hw]; · iexact Hw
  isplitl [Ho]
  · iexists g2
    isplitr
    · ipureintro; exact fun x h => absurd h (Nat.not_lt_zero _)
    · iexact Ho
  isplitl [Hf]; · iexact Hf
  isplitl [Ht]; · iexact Ht
  isplitl [Hb]; · iexact Hb
  isplitl [Ha]; · iexact Ha
  isplitl [HO]
  · iexists W; iexact HO
  iexact Hg

theorem of_out (c : Dev nD) : bodyOut m c ⊢ afterwards m ρ c := by
  unfold afterwards Φ₁ scratch bodyOut Dat.owesAt Pipeline.owesWithin owesE xE wE
  iintro ⟨Hx, Hw, HY, Hf, Ht, Hb, Ha, ⟨%W, HO⟩, Z⟩
  ihave HY := (quE_done m c) $$ HY
  isplitl [Hf Ht Hb Ha Z]
  · isplitl [Hf Ht Hb Ha]
    · isplitl [Hf]; · iexact Hf
      isplitl [Ht]; · iexact Ht
      isplitl [Hb]; · iexact Hb
      iexact Ha
    iexact Z
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact HY

set_option maxRecDepth 8000 in
theorem body_obligation (c : Dev nD) : BodyObligation (dats (F := F) m ρ 0 c) (defs₀ (F := F)) 𝒱₀ 0 Set.univ := fun t => by
  rw [fin_N0 t]
  rw [bigSep_W0, bigSep_W0]
  simp only [owns_all]
  show before m ρ c ⊢ Run c (cc0_body (F := F) xM (hstage0_0 0) wM (hstage0_1 0) oM (hstage0_2 0) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11) (fun _ => afterwards m ρ c)
  iintro H
  ihave H' := (in_of m ρ c) $$ H
  icases H' with ⟨⟨%K, #He⟩, Hin⟩
  iapply (body m K c (Q := fun _ => afterwards m ρ c)) $$ He Hin
  iintro Hout
  iapply (of_out m ρ c); iexact Hout

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cells8 toks8)

/-- What the launch deals each device, and what the shared step makes of it. -/
def G (c : Dev nD) : sProp 𝕄 :=
  iprop((bigSep Finset.univ fun k : KI => roundState ER (Rd m) (kcell (c, k)) 0)
    ∗ ((bigSep Finset.univ fun k : KI => reached ER (kcell (c, k)) 0) ∗ places (F := F) c) ∗ minted (F := F) c)
def G' (c : Dev nD) : sProp 𝕄 := iprop((∃ K, invsAll m K) ∗ paid (F := F) c ∗ places (F := F) c)

theorem fund8 : BI.own (ER (initOf cells8 toks8)) ⊢ (|==> bigSep Finset.univ (G m) : sProp 𝕄) := by
  have hX (P : GSem nD τ sig → sProp 𝕄) : bigSep cells8 P = bigSep Finset.univ fun c : Dev nD => bigSep Finset.univ fun k : KI => P (kcell (c, k)) := by
    unfold cells8; rw [bigSep_map, bigSep_univ_prod]; rfl
  have hT : bigSep toks8 (fun x => (dutyTok ER x.1 x.2.1 x.2.2 : sProp 𝕄)) = bigSep Finset.univ fun c : Dev nD => minted c := by
    unfold toks8; rw [bigSep_map, bigSep_univ_prod]; rfl
  iintro HX
  imod (Rounds.fund ER (Rd m) cells8 toks8) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hr']
    · iexact Hr'
    · iexact Hat'
  iexact Htok'

theorem barrier_sems (c : Dev nD) : (unscopedSems0 c : sProp 𝕄) = semVal (bcell c) 0 := by
  unfold unscopedSems0; rw [bigSep_eq_bigSepL_of_eq [SemLoc.reg barS] (by decide +kernel) (by decide)]; rfl
theorem all_sems (c : Dev nD) :
    iprop(Pipeline.ownSems0 (Ix := ℕ) (Name := ℕ) (U := UU) (Lvl := ℕ) (Val := Elt F) (τ := τ) osem c ∗ unscopedSems0 c)
      = (bigSep Finset.univ fun k : KI => semVal (kcell (c, k)) 0 : sProp 𝕄) := by
  rw [barrier_sems, bigSep_univ_sum, one1]; rfl

theorem alloc8 (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : KI => reached ER (kcell (c, k)) 0) ∗ places (F := F) c) ∗ minted (F := F) c) := by
  unfold G
  iintro ⟨Hos, Hus, Hst, Hat, Htok⟩
  ihave Hv := (Entails.of_eq (all_sems (F := F) c)) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

instance invsAll_persistent (K : Dev nD × KI → ℕ) : BI.Persistent (invsAll m K) := by unfold invsAll; infer_instance

theorem regroup :
    (bigSep Finset.univ fun c : Dev nD => iprop((bigSep Finset.univ fun k => iprop(∃ κ : ℕ, cellInv ER (Rd m) κ (kcell (c, k))))
          ∗ ((bigSep Finset.univ fun k : KI => reached ER (kcell (c, k)) 0) ∗ places (F := F) c) ∗ minted (F := F) c) : sProp 𝕄)
      ⊢ bigSep Finset.univ (G' m) := by
  rw [bigSep_sep', bigSep_sep', bigSep_sep', ← bigSep_univ_prod (fun ck : Dev nD × KI => iprop(∃ κ : ℕ, cellInv ER (Rd m) κ (kcell ck))),
    ← bigSep_univ_prod (fun ck : Dev nD × KI => (reached ER (kcell ck) 0 : sProp 𝕄)), deal]
  iintro ⟨HI, ⟨#HR, Hat⟩, Htok⟩
  ihave HK := (BI.bigSep_exists_pi Finset.univ (fun (ck : Dev nD × KI) (κ : ℕ) => (cellInv ER (Rd m) κ (kcell ck) : sProp 𝕄))) $$ HI
  icases HK with ⟨%K, #HI⟩
  iapply (spread (R := invsAll m K) (Φ := fun c => iprop(paid (F := F) c ∗ places (F := F) c)) fun c _ => (show iprop(invsAll m K ∗ paid (F := F) c ∗ places (F := F) c) ⊢ G' m c from by
    unfold G'
    iintro ⟨H1, H2⟩
    isplitl [H1]
    · iexists K; iexact H1
    · iexact H2))
  isplitr
  · unfold invsAll
    isplitl
    · iexact HI
    · iexact HR
  · rw [bigSep_sep']
    isplitl [Htok] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc8 m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (owe 0) c ∗ prngReg c (ρ c) ∗ G' m c)
      ⊢ |={Set.univ}=> iprop(start m c ∗ emp) := by
  iintro ⟨-, Hlev, Hcr, -, HG⟩
  ihave Hc := (credits_intro (F := F) c) $$ Hcr
  unfold G'
  icases HG with ⟨⟨%K, HI⟩, Hp, Hat⟩
  imodintro
  unfold start
  isplitl
  · isplitl [HI Hlev]
    · iexists K; unfold env
      isplitl [HI]
      · iexact HI
      · iexact Hlev
    · iapply (ghost_of (F := F) c)
      isplitl [Hp]; · iexact Hp
      isplitl [Hat]; · iexact Hat
      iexact Hc
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch bufAny bAny aAny
  iintro ⟨Hs, -, Hr⟩
  isplitl [Hs]
  · iexact Hs
  · iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, barrier_sems,
    show (Pipeline.ownSems0 osem c : sProp 𝕄) = iprop((zeros (F := F) 0 c ∗ zeros (F := F) 1 c ∗ zeros (F := F) 2 c ∗ zeros (F := F) 3 c ∗ zeros (F := F) 4 c ∗ zeros (F := F) 5 c)
      ∗ ((semVal (ccell false c) 0 : sProp 𝕄) ∗ (semVal (ccell true c) 0 : sProp 𝕄))) from by
        unfold Pipeline.ownSems0
        rw [bigSep_univ_sum, bigSep_univ_prod, six, bool2]; rfl]
  unfold Φ₁ scratch bufAny bAny aAny
  iintro ⟨Hr, Z0, Z1, Z2, Z3, Z4, Z5, Zf, Zt, Zb⟩
  isplitl [Zb]; · iexact Zb
  isplitr [Hr]
  · isplitl [Z0 Z1 Z2 Z3 Z4 Z5]
    · isplitl [Z0]; · iexact Z0
      isplitl [Z1]; · iexact Z1
      isplitl [Z2]; · iexact Z2
      isplitl [Z3]; · iexact Z3
      isplitl [Z4]; · iexact Z4
      iexact Z5
    · isplitl [Zf]
      · iexact Zf
      · iexact Zt
  · iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait (by decide) (by fin_cases w <;> fin_cases s <;> decide +kernel) c
    · refine BIBase.Entails.trans ?_ (Entails.of_eq (MayWait_zero _ _ _).symm)
      iintro -; iempintro

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every run ends, in a state whose window arrays are the computed ones and whose
    counters are zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund8 m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.Ring8

end
-- ==== Proof.Greatest.lean ====
/-
The literals as numbers, the two ways of scaling, and greatest elements told by their bounds.
-/
module

public import proofs.«01_k».proof.Proof.Run
public import Idealize.ShloMosaic.Lib.ValueIdx
public import Idealize.ShloMosaic.PureOps.Ideal.Laws
public import Idealize.ShloMosaic.PureOps.Reduce

@[expose] public section

noncomputable section

namespace Cert.Ring8

open Cert.KernelIdeal Cert.KernelIdeal.Gen

open Idealize.ShloMosaic Idealize.ShloMosaic.ValueIdx
open Idealize.ShloMosaic.TcCoe
open Idealize.SL.Sem

/-! ## Numbers -/

/-- The words of the literals: 127, and the floor under the largest entry. -/
theorem lit_127 : Ideal.ofBits .f32 0x42FE0000#32 = ((127 : ℝ) : EReal) := by
  simp [Ideal.ofBits, Ideal.ieee]
  rw [← EReal.coe_mul]; norm_num
theorem lit_bot : Ideal.ofBits .f32 0xFF800000#32 = (⊥ : EReal) := by
  simp [Ideal.ofBits, Ideal.ieee]
/-- The floor: some positive number. -/
def flo : EReal := Ideal.ofBits .f32 0x0DA24260#32
theorem flo_pos : (0 : EReal) < flo := by
  unfold flo
  simp [Ideal.ofBits, Ideal.ieee]
  rw [← EReal.coe_mul]; exact_mod_cast (by positivity : (0 : ℝ) < 10633824 * (2 ^ 123)⁻¹)

theorem smax_def (a b : EReal) : Scalar.maximumf (F := Ideal) (φ := .f32) a b = max a b := rfl

/-- Multiplying by `127 / M` is dividing by `M / 127`, for every positive `M`, also an infinite one. -/
theorem mul_inv_scale (y M : EReal) (hM : 0 < M) :
    y * Ideal.div ((127 : ℝ) : EReal) M = Ideal.div y (Ideal.div M ((127 : ℝ) : EReal)) := by
  induction M with
  | bot => exact absurd hM (by simp)
  | top =>
    have e : Ideal.div (⊤ : EReal) ((127 : ℝ) : EReal) = ⊤ := by
      rw [Ideal.div_coe (by norm_num)]; exact EReal.top_mul_coe_of_pos (by norm_num)
    rw [e]; unfold Ideal.div
    rw [if_neg (by simp), if_neg (by simp), EReal.inv_top]; simp
  | coe r =>
    have hr : 0 < r := by exact_mod_cast hM
    rw [Ideal.div_coe (ne_of_gt hr), Ideal.div_coe (by norm_num), ← EReal.coe_mul, ← EReal.coe_mul, Ideal.div_coe (by positivity)]
    congr 2; field_simp

/-! ## Greatest elements

A greatest element is told by the numbers that it does not exceed. -/

theorem fold_max_le {ι : Type} [DecidableEq ι] (S : Finset ι) (f : ι → EReal) (z : EReal) :
    S.fold (FloatOps.maximumf (F := Ideal) (φ := .f32)) (Ideal.ofBits .f32 0xFF800000#32) f ≤ z ↔ ∀ i ∈ S, f i ≤ z := by
  have h := Finset.fold_max_le (s := S) (f := f) (b := Ideal.ofBits .f32 0xFF800000#32) (c := z)
  rw [lit_bot] at h ⊢
  exact h.trans (and_iff_right bot_le)

/-- The greatest element of a block, as the kernel takes it: through a reduction to one element. -/
theorem max_kernel {s s' : Shape} (Y : FVec Ideal s .f32) {axes : List (Fin s'.rank)} (hc : s.ShapeCasts s') (hr : s'.Reduces axes S1)
    (hφ : FKind.Formats .f32) (h1 : S1.ShapeCasts S1x1x1) (hp : ∀ a, ![0, 0, 0] a < S1x1x1.size a) (z : EReal) :
    extractAt ![0, 0, 0] (shapeCast S1x1x1 (multiReduction .maximumf axes S1 (shapeCast s' Y hc) 0xFF800000#32 hr hφ rfl) h1) hp ≤ z
      ↔ ∀ i, Y i ≤ z := by
  have e : ∀ j : S1.Idx, multiReduction .maximumf axes S1 (shapeCast s' Y hc) 0xFF800000#32 hr hφ rfl j ≤ z ↔ ∀ i, Y i ≤ z := fun j => ?_
  · exact e _
  rw [multiReduction_maximumf_eq_fold (shapeCast s' Y hc) 0xFF800000#32 hr hφ rfl j]
  refine (fold_max_le _ _ z).trans ⟨fun h i => ?_, fun h i _ => h _⟩
  have := h ((Shape.reshapeEquiv hc).symm i) (Finset.mem_filter.mpr ⟨Finset.mem_univ _, funext fun a => Fin.ext (by
    have h0 := ((hr.drop ((Shape.reshapeEquiv hc).symm i)) a).isLt
    have h1 := (j a).isLt
    fin_cases a
    change _ < 1 at h0; change _ < 1 at h1
    omega)⟩)
  rw [show shapeCast s' Y hc ((Shape.reshapeEquiv hc).symm i) = Y i from congrArg Y (Equiv.apply_symm_apply _ _)] at this
  exact this

/-- The greatest element of an array, as the reference takes it. -/
theorem max_host {s : Shape} (Y : FVec Ideal s .f32) {axes : List (Fin s.rank)} {t : Shape} (h0 : t.rank = 0) (hr : s.ReducesTo axes t)
    {u : Shape} (hu : 0 < u.numel) (j : t.Idx) (z : EReal) :
    Host.reduce (FloatOps.maximumf (F := Ideal) (φ := .f32)) Y (constant u .f32 0xFF800000#32) hr hu j ≤ z ↔ ∀ i, Y i ≤ z := by
  rw [Host.reduce_eq_fold]
  refine (fold_max_le _ _ z).trans ⟨fun h i => h i ?_, fun h i _ => h i⟩
  exact Finset.mem_filter.mpr ⟨Finset.mem_univ _, funext fun a => absurd a.isLt (by omega)⟩

end Cert.Ring8

end
-- ==== Proof.Products.lean ====
/-
What the kernel's arrays hold over the extended reals: entries of the whole product, cut off below at zero.
-/
module

public import proofs.«01_k».proof.Proof.Greatest
public import Idealize.ShloMosaic.Lib.Layout
public import Idealize.ShloMosaic.Lib.MatmulPlain

@[expose] public section

noncomputable section

namespace Cert.Ring8

open Cert.KernelIdeal Cert.KernelIdeal.Gen

open Idealize.ShloMosaic Idealize.ShloMosaic.ValueIdx
open Idealize.ShloMosaic.TcCoe
open Idealize.SL.Sem

/-! ## The arrays that the run starts from and ends in -/

section Arrays
variable {F : FTy → Type} [FloatOps F]
variable (m : (ℓ : Loc nD τ sig) → Buf (Elt F) ℓ) (ρ : Dev nD → PrngReg)

/-- The windows are whole arrays: the one block of each is the array. -/
theorem xs_eq (c : Dev nD) : xs m c = m ((c : Thread nD τ).loc main_arg0) := by
  funext j
  refine congrArg (m ((c : Thread nD τ).loc main_arg0)) ?_
  exact Shape.idx_ext₂ (x := (win0_0.blk (0 : Fin 1)).view.emb j) (win0_0.rect_emb_val_of_index_zero (0 : Fin 1) 0 rfl j) (win0_0.rect_emb_val_of_index_zero (0 : Fin 1) 1 rfl j)
theorem ws_eq (c : Dev nD) : ws m c = m ((c : Thread nD τ).loc main_arg1) := by
  funext j
  refine congrArg (m ((c : Thread nD τ).loc main_arg1)) ?_
  exact Shape.idx_ext₂ (x := (win0_1.blk (0 : Fin 1)).view.emb j) (win0_1.rect_emb_val_of_index_zero (0 : Fin 1) 0 rfl j) (win0_1.rect_emb_val_of_index_zero (0 : Fin 1) 1 rfl j)
theorem final_y (c : Dev nD) : finalA m ρ c (2 : Fin 3) = zT m c := by
  have h : (win0_2.blk (0 : Fin 1)).view.read (Elt F) (finalA m ρ c (2 : Fin 3)) = zT m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  funext j
  refine congrArg (finalA m ρ c (2 : Fin 3)) (Eq.symm ?_)
  exact Shape.idx_ext₂ (x := (win0_2.blk (0 : Fin 1)).view.emb j) (win0_2.rect_emb_val_of_index_zero (0 : Fin 1) 0 rfl j) (win0_2.rect_emb_val_of_index_zero (0 : Fin 1) 1 rfl j)
end Arrays

/-! ## The products -/

abbrev SX : Shape := ⟨2, ![4096, 4096]⟩
abbrev SW : Shape := ⟨2, ![4096, 8192]⟩

/-- The whole product's entry, and that entry cut off below at zero. -/
def prod (X : FVec Ideal SX .f32) (W : FVec Ideal SW .f32) (i : SW.Idx) : EReal := ∑ k : Fin 4096, X (ix2 (i 0) k) * W (ix2 k (i 1))
def rl (X : FVec Ideal SX .f32) (W : FVec Ideal SW .f32) (i : SW.Idx) : EReal := max (prod X W i) 0

theorem rl_nonneg (X : FVec Ideal SX .f32) (W : FVec Ideal SW .f32) (i : SW.Idx) : 0 ≤ rl X W i := le_max_right _ _

/-- A product of a block of rows and a block of columns, entry by entry: the kernel's two, and the host's. -/
theorem dot_own (A : FVec Ideal S512x4096 .f32) (B : FVec Ideal S4096x1024 .f32) (r : Fin 512) (l : Fin 1024) :
    matmul dot_S512x4096_S4096x1024_S512x1024_1_0_0_1_n_n none A B (constant S512x1024 .f32 0x00000000#32) (ix2 r l)
      = ∑ k : Fin 4096, A (ix2 r k) * B (ix2 k l) := by
  refine (Ideal.matmul_plain_apply (M := 512) (K := 4096) (N := 1024) none A B _ r l).trans ?_
  show Ideal.ofBits .f32 0x00000000#32 + _ = _
  rw [Ideal.ofBits_zero_f32, zero_add]
theorem dot_half (A : FVec Ideal S256x4096 .bf16) (B : FVec Ideal S4096x1024 .f32) (r : Fin 256) (l : Fin 1024) :
    matmul dot_S256x4096_S4096x1024_S256x1024_1_0_0_1_n_n none A B (constant S256x1024 .f32 0x00000000#32) (ix2 r l)
      = ∑ k : Fin 4096, A (ix2 r k) * B (ix2 k l) := by
  refine (Ideal.matmul_plain_apply (M := 256) (K := 4096) (N := 1024) none A B _ r l).trans ?_
  show Ideal.ofBits .f32 0x00000000#32 + _ = _
  rw [Ideal.ofBits_zero_f32, zero_add]
theorem dot_host {M N : ℕ} (A : FVec Ideal ⟨2, ![M, 4096]⟩ .f32) (B : FVec Ideal ⟨2, ![4096, N]⟩ .f32) (j : (⟨2, ![M, N]⟩ : Shape).Idx) :
    Host.dotGeneral (DotDims.plain M 4096 N) none A B j = ∑ k : Fin 4096, A (ix2 (j 0) k) * B (ix2 k (j 1)) := by
  have e : j = ix2 (j 0) (j 1) := eq_ix2 j
  conv_lhs => rw [e]
  have h := Ideal.matmul_plain_apply (M := M) (K := 4096) (N := N) none A B (constant _ .f32 0x00000000#32) (j 0) (j 1)
  rw [Ideal.matmul_apply] at h
  have z : (constant (F := Ideal) (⟨2, ![M, N]⟩ : Shape) .f32 0x00000000#32) (ix2 (j 0) (j 1)) = (0 : EReal) := Ideal.ofBits_zero_f32
  rw [z, zero_add, zero_add] at h
  exact (Ideal.dotGeneral_apply (DotDims.plain M 4096 N) none HostSchedule.single A B (ix2 (j 0) (j 1))).trans h

section Blocks
variable (m : (ℓ : Loc nD τ sig) → Buf (Elt Ideal) ℓ)
/-- Every device holds its rows of `X` and its columns of `W`. -/
def Holds (X : FVec Ideal SX .f32) (W : FVec Ideal SW .f32) : Prop :=
  ∀ c : Dev nD, m ((c : Thread nD τ).loc main_arg0) = Layout.block S512x4096 SX 0 8 c X
    ∧ m ((c : Thread nD τ).loc main_arg1) = Layout.block S4096x1024 SW 1 8 c W

variable {X : FVec Ideal SX .f32} {W : FVec Ideal SW .f32} {m}

theorem at_x (h : Holds m X W) (c : Dev nD) (r : Fin 512) (k : Fin 4096) (R : Fin 4096) (hR : (R : ℕ) = c.val * 512 + r) :
    xs m c (ix2 r k) = X (ix2 R k) := by
  rw [xs_eq, (h c).1]
  refine congrArg X (Shape.idx_ext₂ ?_ ?_)
  · exact hR.symm
  · rfl
theorem at_w (h : Holds m X W) (c : Dev nD) (k : Fin 4096) (l : Fin 1024) (L : Fin 8192) (hL : (L : ℕ) = c.val * 1024 + l) :
    ws m c (ix2 k l) = W (ix2 k L) := by
  rw [ws_eq, (h c).2]
  refine congrArg W (Shape.idx_ext₂ ?_ ?_)
  · rfl
  · exact hL.symm
theorem at_chunk (h : Holds m X W) (d : Bool) (b : Dev nD) (r : Fin 256) (k : Fin 4096) (R : Fin 4096)
    (hR : (R : ℕ) = b.val * 512 + (if d then 256 else 0) + r) : chunk m d b (ix2 r k) = X (ix2 R k) := by
  have hb : (if d then 256 else 0) + (r : ℕ) < 512 := by cases d <;> simp <;> omega
  refine Eq.trans (b := xs m b (ix2 (⟨(if d then 256 else 0) + (r : ℕ), hb⟩ : Fin 512) k)) ?_ (at_x h b _ k R ?_)
  · unfold chunk xb k0_pay2
    rw [shapeCast_self]
    show shapeCast S512x4096 (xs m b) _ ((rHalf d).emb (ix2 r k)) = _
    rw [shapeCast_self]
    refine congrArg (xs m b) (Shape.idx_ext₂ (x := (rHalf d).emb (ix2 r k)) ?_ ?_)
    · exact unit_emb (s := S512x4096) (off := ![if d then 256 else 0, 0]) (sz := S256x4096.size) (ix2 r k) 0
    · exact (unit_emb (s := S512x4096) (off := ![if d then 256 else 0, 0]) (sz := S256x4096.size) (ix2 r k) 1).trans (Nat.zero_add _)
  · rw [hR]; show _ = b.val * 512 + ((if d then 256 else 0) + (r : ℕ)); omega

/-- The blocks that a device computes, as entries of the whole product cut off at zero. -/
theorem own_rl (h : Holds m X W) (c : Dev nD) (r : Fin 512) (l : Fin 1024) (i : SW.Idx) (h0 : (i 0 : ℕ) = c.val * 512 + r)
    (h1 : (i 1 : ℕ) = c.val * 1024 + l) : k0_pay3 (xs m c) (ws m c) (ix2 r l) = rl X W i := by
  unfold k0_pay3 rl prod
  rw [shapeCast_self, shapeCast_self]
  show max (matmul dot_S512x4096_S4096x1024_S512x1024_1_0_0_1_n_n none (xs m c) (ws m c) (constant S512x1024 .f32 0x00000000#32) (ix2 r l))
    (Ideal.ofBits .f32 0x00000000#32) = _
  rw [dot_own, Ideal.ofBits_zero_f32]
  exact congrArg (max · 0) (Finset.sum_congr rfl fun k _ => by rw [at_x h c r k (i 0) h0, at_w h c k l (i 1) h1])
theorem blk_rl (h : Holds m X W) (d : Bool) (b c : Dev nD) (r : Fin 256) (l : Fin 1024) (i : SW.Idx)
    (h0 : (i 0 : ℕ) = b.val * 512 + (if d then 256 else 0) + r) (h1 : (i 1 : ℕ) = c.val * 1024 + l) :
    blk (chunk m d b) (ws m c) (ix2 r l) = rl X W i := by
  unfold blk rl prod
  rw [shapeCast_self]
  show max (matmul dot_S256x4096_S4096x1024_S256x1024_1_0_0_1_n_n none (chunk m d b) (ws m c) (constant S256x1024 .f32 0x00000000#32) (ix2 r l))
    (Ideal.ofBits .f32 0x00000000#32) = _
  rw [dot_half, Ideal.ofBits_zero_f32]
  exact congrArg (max · 0) (Finset.sum_congr rfl fun k _ => by rw [at_chunk h d b r k (i 0) h0, at_w h c k l (i 1) h1])

/-- The place of a device's entry in the whole product. -/
def at8 (c : Dev nD) (x : S4096x1024.Idx) : SW.Idx :=
  ix2 (x 0) (⟨c.val * 1024 + (x 1 : ℕ), by have h := (x 1).isLt; have := c.isLt; change _ < 1024 at h; change _ < 8 at this; omega⟩ : Fin 8192)

theorem yT_rl (h : Holds m X W) (c : Dev nD) (x : S4096x1024.Idx) : yT m c x = rl X W (at8 c x) := by
  by_cases hc : (x 0 : ℕ) / 512 = c.val
  · rw [yT_own m c x hc]
    exact own_rl h c _ _ _ (by show (x 0 : ℕ) = c.val * 512 + (x 0 : ℕ) % 512; omega) rfl
  · rw [yT_of m c x _ (rowDev x) hc rfl rfl]
    refine blk_rl h _ _ c _ _ _ ?_ rfl
    show (x 0 : ℕ) = (x 0 : ℕ) / 512 * 512 + _ + (x 0 : ℕ) % 256
    by_cases hd : (x 0 : ℕ) % 512 / 256 = 1
    · simp only [hd, decide_true, if_true]; omega
    · simp only [hd, decide_false, Bool.false_eq_true, if_false]; omega

end Blocks

end Cert.Ring8

end
-- ==== Proof.Value.lean ====
/-
The kernel's greatest entry is the whole product's, and its result the quantised product.
-/
module

public import proofs.«01_k».proof.Proof.Products

@[expose] public section

noncomputable section

namespace Cert.Ring8

open Cert.KernelIdeal Cert.KernelIdeal.Gen

open Idealize.ShloMosaic Idealize.ShloMosaic.ValueIdx
open Idealize.ShloMosaic.TcCoe
open Idealize.SL.Sem

section Blocks
variable {m : (ℓ : Loc nD τ sig) → Buf (Elt Ideal) ℓ} {X : FVec Ideal SX .f32} {W : FVec Ideal SW .f32}

/-! ## The greatest entry -/

theorem mx_le (Y : FVec Ideal S256x1024 .f32) (z : EReal) : mx Y ≤ z ↔ ∀ i, Y i ≤ z := by
  unfold mx; exact max_kernel Y _ _ _ _ _ z
theorem step_le (a : EReal) (A B : Vec Ideal S256x4096 .bf16) (w : Vec Ideal S4096x1024 .f32) (z : EReal) :
    mxStep a A B w ≤ z ↔ (a ≤ z ∧ ∀ i, blk A w i ≤ z) ∧ ∀ i, blk B w i ≤ z := by
  unfold mxStep
  rw [smax_def, smax_def, max_le_iff, max_le_iff, mx_le, mx_le]
theorem first_le (c : Dev nD) (z : EReal) : amx m c 0 ≤ z ↔ 0 ≤ z ∧ ∀ i, k0_pay3 (xs m c) (ws m c) i ≤ z := by
  rw [amx]
  unfold k0_pay4
  dsimp only
  rw [smax_def, max_le_iff, show Scalar.ofBits (F := Ideal) .f32 0x00000000#32 = (0 : EReal) from Ideal.ofBits_zero_f32]
  exact and_congr Iff.rfl (max_kernel _ _ _ _ _ _ z)
theorem amx_mono (c : Dev nD) {h k : ℕ} (hk : h ≤ k) : amx m c h ≤ amx m c k := by
  induction k, hk using Nat.le_induction with
  | base => exact le_rfl
  | succ k _ ih => exact ih.trans ((step_le _ _ _ _ _).1 (le_refl (amx m c (k + 1)))).1.1

/-- A device's maximum bounds every entry of its columns, -/
theorem yT_le (c : Dev nD) (x : S4096x1024.Idx) : yT m c x ≤ amx m c 7 := by
  by_cases hc : (x 0 : ℕ) / 512 = c.val
  · rw [yT_own m c x hc]
    exact (((first_le c _).1 (le_refl _)).2 _).trans (amx_mono c (Nat.zero_le 7))
  · have hx : (x 0 : ℕ) / 512 < 8 := (rowDev x).isLt
    have hc8 : c.val < 8 := c.isLt
    have key : ∀ (d : Bool) (n : ℕ), n < 7 → orig d (n + 1) c = rowDev x → decide ((x 0 : ℕ) % 512 / 256 = 1) = d → yT m c x ≤ amx m c 7 := by
      intro d n hn ho hd
      rw [yT_of m c x d (rowDev x) hc rfl hd, ← ho]
      have h := (step_le _ _ _ _ _).1 (le_refl (amx m c (n + 1)))
      refine le_trans ?_ (amx_mono c (show n + 1 ≤ 7 by omega))
      cases d
      · exact h.1.2 _
      · exact h.2 _
    by_cases hd : (x 0 : ℕ) % 512 / 256 = 1
    · refine key true (((x 0 : ℕ) / 512 + 8 - c.val) % 8 - 1) (by omega) (Fin.ext ?_) (decide_eq_true hd)
      unfold orig; rw [sh_val]; show (c.val + (((x 0 : ℕ) / 512 + 8 - c.val) % 8 - 1 + 1)) % 8 = (x 0 : ℕ) / 512; omega
    · refine key false ((c.val + 8 - (x 0 : ℕ) / 512) % 8 - 1) (by omega) (Fin.ext ?_) (decide_eq_false hd)
      unfold orig; rw [sh_val]; show (c.val + 7 * ((c.val + 8 - (x 0 : ℕ) / 512) % 8 - 1 + 1)) % 8 = (x 0 : ℕ) / 512; omega

/-- and does not exceed what bounds all entries of the whole. -/
theorem amx_le (h : Holds m X W) (c : Dev nD) (z : EReal) (hz : 0 ≤ z) (hb : ∀ i, rl X W i ≤ z) (n : ℕ) : amx m c n ≤ z := by
  have hbk : ∀ (d : Bool) (b : Dev nD) (i : S256x1024.Idx), blk (chunk m d b) (ws m c) i ≤ z := fun d b i => by
    obtain ⟨r, l, rfl⟩ : ∃ (r : Fin 256) (l : Fin 1024), i = ix2 r l := ⟨_, _, eq_ix2 i⟩
    have hb8 : b.val < 8 := b.isLt
    have hc8 : c.val < 8 := c.isLt
    have hb' : b.val * 512 + (if d then 256 else 0) + (r : ℕ) < 4096 := by cases d <;> simp <;> omega
    rw [blk_rl h d b c r l (ix2 (⟨_, hb'⟩ : Fin 4096) (⟨c.val * 1024 + l, by omega⟩ : Fin 8192)) rfl rfl]
    exact hb _
  induction n with
  | zero =>
    refine (first_le c z).2 ⟨hz, fun i => ?_⟩
    obtain ⟨r, l, rfl⟩ : ∃ (r : Fin 512) (l : Fin 1024), i = ix2 r l := ⟨_, _, eq_ix2 i⟩
    have hc8 : c.val < 8 := c.isLt
    rw [own_rl h c r l (ix2 (⟨c.val * 512 + r, by omega⟩ : Fin 4096) (⟨c.val * 1024 + l, by omega⟩ : Fin 8192)) rfl rfl]
    exact hb _
  | succ n ih => exact (step_le _ _ _ _ z).2 ⟨⟨ih, hbk _ _⟩, hbk _ _⟩

/-- The greatest of all devices' maxima and the floor is the whole product's greatest entry, where that reaches the floor. -/
theorem amax_eq (h : Holds m X W) {M : EReal} (hM : ∀ z, M ≤ z ↔ ∀ i, rl X W i ≤ z) (hf : flo ≤ M) : k0_pay34 (axC m) = M := by
  have hle : ∀ z : EReal, k0_pay34 (axC m) ≤ z ↔ (∀ x, axC m x ≤ z) ∧ flo ≤ z := fun z => by
    unfold k0_pay34
    dsimp only
    rw [smax_def, max_le_iff, show Scalar.ofBits (F := Ideal) .f32 0x0DA24260#32 = flo from rfl]
    exact and_congr (max_kernel _ _ _ _ _ _ z) Iff.rfl
  refine le_antisymm ((hle M).2 ⟨fun x => ?_, hf⟩) ((hM _).2 fun i => ?_)
  · exact amx_le h _ M (flo_pos.le.trans hf) ((hM M).1 le_rfl) 7
  · have hi : (i 1 : ℕ) < 8192 := (i 1).isLt
    have e : i = at8 (⟨(i 1 : ℕ) / 1024, by show _ < 8; omega⟩ : Dev nD)
        (ix2 (i 0) (⟨(i 1 : ℕ) % 1024, Nat.mod_lt _ (by decide)⟩ : Fin 1024)) := by
      refine Shape.idx_ext₂ rfl ?_
      show (i 1 : ℕ) = (i 1 : ℕ) / 1024 * 1024 + (i 1 : ℕ) % 1024; omega
    rw [e, ← yT_rl h]
    exact (yT_le _ _).trans (((hle _).1 le_rfl).1 (ix2 (⟨(i 1 : ℕ) / 1024, by omega⟩ : Fin 8) (0 : Fin 128)))

/-! ## The result -/

/-- The quantiser: to the nearest of the numbers from −127 to 127, scaled by a hundred and twenty-seventh of `M`. -/
def quant (M y : EReal) : EReal :=
  min ((127 : ℝ) : EReal) (max (Ideal.ofBits .f32 0xC2FE0000#32) (Ideal.liftRound Ideal.roundHalfEven (Ideal.div y (Ideal.div M ((127 : ℝ) : EReal)))))
    * Ideal.div M ((127 : ℝ) : EReal)

theorem zT_quant (h : Holds m X W) {M : EReal} (hM : ∀ z, M ≤ z ↔ ∀ i, rl X W i ≤ z) (hf : flo ≤ M) (c : Dev nD) (x : S4096x1024.Idx) :
    zT m c x = quant M (rl X W (at8 c x)) := by
  have e := amax_eq h hM hf
  have e5 : k0_pay35 (axC m) = Ideal.div M ((127 : ℝ) : EReal) := by
    unfold k0_pay35; rw [e]; show Ideal.div M (Ideal.ofBits .f32 0x42FE0000#32) = _; rw [lit_127]
  have e6 : k0_pay36 (axC m) = Ideal.div ((127 : ℝ) : EReal) M := by
    unfold k0_pay36; rw [e]; show Ideal.div (Ideal.ofBits .f32 0x42FE0000#32) M = _; rw [lit_127]
  have ey : yBlk m c ((x 0 : ℕ) / 512) (ix2 (⟨(x 0 : ℕ) % 512, Nat.mod_lt _ (by decide)⟩ : Fin 512) (x 1)) = rl X W (at8 c x) := by
    rw [← yT_rl h]
    refine congrArg (yT m c) (Shape.idx_ext₂ ?_ rfl)
    have := (x 0).isLt; change (x 0 : ℕ) < 4096 at this
    show (512 * ((x 0 : ℕ) / 512) + (x 0 : ℕ) % 512) % 4096 = (x 0 : ℕ); omega
  unfold zT k0_pay1
  rw [e5, e6, shapeCast_self]
  show min (Ideal.ofBits .f32 0x42FE0000#32) (max (Ideal.ofBits .f32 0xC2FE0000#32) (Ideal.liftRound Ideal.roundHalfEven
    (yBlk m c ((x 0 : ℕ) / 512) (ix2 (⟨(x 0 : ℕ) % 512, Nat.mod_lt _ (by decide)⟩ : Fin 512) (x 1)) * Ideal.div ((127 : ℝ) : EReal) M)))
    * Ideal.div M ((127 : ℝ) : EReal) = _
  rw [ey, mul_inv_scale _ _ (flo_pos.trans_le hf), lit_127]
  rfl

end Blocks

end Cert.Ring8

end
-- ==== Proof.Final.lean ====
/-
The reference's result entry by entry, the precondition, and the kernel's result as the reference's.
-/
module

public import proofs.«01_k».proof.Proof.Value
public import proofs.«01_k».proof.Proof.Gen.ReferenceIdeal
public import proofs.«01_k».proof.Proof.Gen.ReferenceIdeal.Run
public import proofs.«01_k».proof.Pre_own_product_reaches_floor_KernelIdeal
public import proofs.«01_k».proof.Pre_own_product_reaches_floor_ReferenceIdeal

@[expose] public section

noncomputable section

namespace Cert.Ring8

open Cert.KernelIdeal Cert.KernelIdeal.Gen

open Idealize.ShloMosaic Idealize.ShloMosaic.ValueIdx
open Idealize.ShloMosaic.TcCoe
open Idealize.SL.Sem

/-! ## The reference's terms -/

/-- The reference's product, cut off below at zero; its largest magnitude; and its result. -/
def refY (X : FVec Ideal SX .f32) (W : FVec Ideal SW .f32) : FVec Ideal SW .f32 :=
  maximumf (Host.dotGeneral Cert.ReferenceIdeal.dot_S4096x4096_S4096x8192_S4096x8192_1_0_0_1_n_n none X W)
    (broadcastInDim Cert.ReferenceIdeal.S4096x8192 ![] Cert.ReferenceIdeal.Facts₀.bcast_S_S4096x8192 (constant Cert.ReferenceIdeal.S_ .f32 0x00000000#32))
def refM (Y : FVec Ideal SW .f32) : FVec Ideal Cert.ReferenceIdeal.S_ .f32 :=
  Host.reduce FloatOps.maximumf (Host.absf Y) (constant Cert.ReferenceIdeal.S_ .f32 0xFF800000#32)
    Cert.ReferenceIdeal.Facts₀.reducesTo_S4096x8192_S_d0_1 Cert.ReferenceIdeal.Facts₀.h_S_
def refQ (Y : FVec Ideal SW .f32) (M : FVec Ideal Cert.ReferenceIdeal.S_ .f32) : FVec Ideal SW .f32 :=
  mulf (minimumf (broadcastInDim Cert.ReferenceIdeal.S4096x8192 ![] Cert.ReferenceIdeal.Facts₀.bcast_S_S4096x8192 (id (constant Cert.ReferenceIdeal.S_ .f32 0x42FE0000#32)))
    (maximumf (broadcastInDim Cert.ReferenceIdeal.S4096x8192 ![] Cert.ReferenceIdeal.Facts₀.bcast_S_S4096x8192 (id (constant Cert.ReferenceIdeal.S_ .f32 0xC2FE0000#32)))
      (Host.roundeven (Host.divf Y (broadcastInDim Cert.ReferenceIdeal.S4096x8192 ![] Cert.ReferenceIdeal.Facts₀.bcast_S_S4096x8192
        (Host.divf M (constant Cert.ReferenceIdeal.S_ .f32 0x42FE0000#32)))))))
    (broadcastInDim Cert.ReferenceIdeal.S4096x8192 ![] Cert.ReferenceIdeal.Facts₀.bcast_S_S4096x8192 (Host.divf M (constant Cert.ReferenceIdeal.S_ .f32 0x42FE0000#32)))
def refOut (X : FVec Ideal SX .f32) (W : FVec Ideal SW .f32) : FVec Ideal SW .f32 := refQ (refY X W) (refM (refY X W))

/-- The one index of a scalar. -/
def one : Cert.ReferenceIdeal.S_.Idx := fun a => a.elim0
theorem one_eq (j : Cert.ReferenceIdeal.S_.Idx) : j = one := funext fun a => a.elim0

theorem refY_eq (X : FVec Ideal SX .f32) (W : FVec Ideal SW .f32) (i : SW.Idx) : refY X W i = rl X W i := by
  have h : Host.dotGeneral Cert.ReferenceIdeal.dot_S4096x4096_S4096x8192_S4096x8192_1_0_0_1_n_n none X W i = prod X W i := dot_host X W i
  have z : broadcastInDim Cert.ReferenceIdeal.S4096x8192 ![] Cert.ReferenceIdeal.Facts₀.bcast_S_S4096x8192
      (constant (F := Ideal) Cert.ReferenceIdeal.S_ .f32 0x00000000#32) i = (0 : EReal) := Ideal.ofBits_zero_f32
  unfold refY rl
  rw [← h, ← z]
  rfl
theorem refM_le (X : FVec Ideal SX .f32) (W : FVec Ideal SW .f32) (z : EReal) : refM (refY X W) one ≤ z ↔ ∀ i, rl X W i ≤ z := by
  unfold refM
  refine (max_host _ rfl _ _ one z).trans (forall_congr' fun i => ?_)
  have e : Host.absf (refY X W) i = max (refY X W i) (-(refY X W i)) := rfl
  rw [e, refY_eq, max_eq_left ((EReal.neg_le_neg_iff.2 (rl_nonneg X W i)).trans (by rw [neg_zero]; exact rl_nonneg X W i))]
theorem refQ_eq (Y : FVec Ideal SW .f32) (M : FVec Ideal Cert.ReferenceIdeal.S_ .f32) (i : SW.Idx) : refQ Y M i = quant (M one) (Y i) := by
  have e : ∀ j, M j = M one := fun j => congrArg M (one_eq j)
  unfold quant
  rw [← lit_127]
  unfold refQ
  have d : ∀ j, Host.divf M (constant Cert.ReferenceIdeal.S_ .f32 0x42FE0000#32) j = Ideal.div (M one) (Ideal.ofBits .f32 0x42FE0000#32) := fun j => by
    rw [← e j]; rfl
  have b : broadcastInDim Cert.ReferenceIdeal.S4096x8192 ![] Cert.ReferenceIdeal.Facts₀.bcast_S_S4096x8192
      (Host.divf M (constant Cert.ReferenceIdeal.S_ .f32 0x42FE0000#32)) i = Ideal.div (M one) (Ideal.ofBits .f32 0x42FE0000#32) := d _
  rw [← b]
  rfl

/-! ## The precondition -/

instance preK : Cert.Pre_own_product_reaches_floor_KernelIdeal.Facts where
  reducesTo_S512x1024_S_d0_1 := by decide
  h_S_ := by decide
  dot_S512x4096_S4096x1024_S512x1024_1_0_0_1_n_n_wf := by decide
instance preR : Cert.Pre_own_product_reaches_floor_ReferenceIdeal.Facts where
  reducesTo_S4096x8192_S_d0_1 := by decide
  h_S_ := by decide
  dot_S4096x4096_S4096x8192_S4096x8192_1_0_0_1_n_n_wf := by decide

theorem of_cmp {s : Shape} (a b : FVec Ideal s .f32) (j : s.Idx) (h : cmpf .oge a b j = 1#1) : b j ≤ a j := by
  by_contra hc
  have e : cmpf .oge a b j = BitVec.ofBool (decide (b j ≤ a j)) := rfl
  rw [e, decide_eq_false hc] at h
  exact absurd h (by decide)

/-- The precondition at a device bounds the largest entry of the whole product from below. -/
theorem reaches {m : (ℓ : Loc nD τ sig) → Buf (Elt Ideal) ℓ} {X : FVec Ideal SX .f32} {W : FVec Ideal SW .f32} (h : Holds m X W) (c : Dev nD)
    (hp : Cert.Pre_own_product_reaches_floor_KernelIdeal.fn (F := Ideal) (m ((c : Thread nD τ).loc main_arg0)) (m ((c : Thread nD τ).loc main_arg1))
      = fun _ => 1#1) {M : EReal} (hM : ∀ z, M ≤ z ↔ ∀ i, rl X W i ≤ z) : flo ≤ M := by
  refine le_trans (of_cmp _ _ one (congrFun hp one)) ((max_host _ rfl _ _ one M).2 fun i => ?_)
  refine le_trans (le_of_eq (dot_host (m ((c : Thread nD τ).loc main_arg0)) (m ((c : Thread nD τ).loc main_arg1)) i)) ?_
  obtain ⟨r, l, rfl⟩ : ∃ (r : Fin 512) (l : Fin 1024), i = ix2 r l := ⟨_, _, eq_ix2 i⟩
  have hc8 : c.val < 8 := c.isLt
  refine le_trans (le_trans (le_of_eq ?_) (le_max_left _ 0)) ((hM M).1 le_rfl (ix2 (⟨c.val * 512 + r, by omega⟩ : Fin 4096) (⟨c.val * 1024 + l, by omega⟩ : Fin 8192)))
  rw [← xs_eq m c, ← ws_eq m c]
  exact Finset.sum_congr rfl fun k _ => congrArg₂ (· * ·) (at_x h c r k (⟨c.val * 512 + r, by omega⟩ : Fin 4096) rfl)
    (at_w h c k l (⟨c.val * 1024 + l, by omega⟩ : Fin 8192) rfl)

/-- What a device's result array ends holding is its columns of the reference's result. -/
theorem result {m : (ℓ : Loc nD τ sig) → Buf (Elt Ideal) ℓ} {X : FVec Ideal SX .f32} {W : FVec Ideal SW .f32} (h : Holds m X W)
    (hp : ∀ c : Dev nD, Cert.Pre_own_product_reaches_floor_KernelIdeal.fn (F := Ideal) (m ((c : Thread nD τ).loc main_arg0)) (m ((c : Thread nD τ).loc main_arg1))
      = fun _ => 1#1) (c : Dev nD) : zT m c = Layout.block S4096x1024 SW 1 8 c (refOut X W) := by
  funext x
  rw [zT_quant h (refM_le X W) (reaches h c (hp c) (refM_le X W)) c x, ← refY_eq, ← refQ_eq]
  exact congrArg (refOut X W) (Shape.idx_ext₂ rfl rfl)

end Cert.Ring8

end
-- ==== Proof.lean ====
/- The claim of the ring kernel: every run of the kernel, at machine floats and over the extended reals, ends with its two argument arrays as they
   were and every semaphore at zero; the same of the reference; the kernel over the extended reals is the kernel itself, read there; and there each
   device's result is its columns of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import Idealize.ShloMosaic.Adequacy
public import Idealize.ShloMosaic.Init

@[expose] public section

noncomputable section

namespace Cert.Proof

open Idealize.ShloMosaic Idealize.SL.Sem Cert.Kernel

set_option maxRecDepth 20000 in
/-- The kernel and its reading over the extended reals have one text, so that at machine floats their bodies are the same. -/
theorem bodies_eq : Cert.Kernel.defs₀ (F := Bits) = Cert.KernelIdeal.defs₀ (F := Bits) := by
  funext p ℓ a
  cases p with
  | tc =>
    rcases ℓ with ⟨_ | n, h⟩
    · rcases a with ⟨t, s⟩; rfl
    · exact absurd h (Nat.not_lt.2 (Nat.le_add_left _ _))
  | scScalar _ => rfl
  | scVector _ _ => rfl

theorem defs_eq : Cert.Kernel.defs (F := Bits) = Cert.KernelIdeal.defs (F := Bits) :=
  congrArg (Pipeline.defs Cert.KernelIdeal.pcfgs) bodies_eq

theorem frame_kernel : Cert.quiescent_Kernel := fun m ρ _ => by
  rw [defs_eq]
  exact (θ_run (Cert.KernelIdeal.defs (F := Bits)) (onTc (τ := Cert.KernelIdeal.τ) (Cert.KernelIdeal.main (F := Bits))) (Ring8.s₀ m ρ)).mono
    (fun _ (h : Ring8.QC m ρ _ ∧ _) =>
      ⟨fun c => ⟨(h.1 c (0 : Fin 3)).trans (Ring8.final_x m ρ c), (h.1 c (1 : Fin 3)).trans (Ring8.final_w m ρ c)⟩, h.2⟩)
    (Ring8.run_main (F := Bits) m ρ)

theorem frame_kernelIdeal : Cert.quiescent_KernelIdeal := fun m ρ _ =>
  (θ_run Cert.KernelIdeal.defs _ _).mono
    (fun _ h => ⟨fun c => ⟨(h.1 c (0 : Fin 3)).trans (Ring8.final_x m ρ c), (h.1 c (1 : Fin 3)).trans (Ring8.final_w m ρ c)⟩, h.2⟩)
    (Ring8.run_main (F := Ideal) m ρ)

/-- The reference has no semaphore, so that what every counter is holds of all of them at once. -/
theorem frame_reference : Cert.quiescent_ReferenceIdeal := fun m ρ _ =>
  (θ_run Cert.ReferenceIdeal.defs _ _).mono
    (fun _ h => ⟨fun c => (h c).2, funext fun g => by
      rcases g with ⟨_, _ | _⟩ <;> rename_i k <;> exact k.elim0⟩)
    (Cert.ReferenceIdeal.Value.run m ρ)

/-- From memories that hold the parts of the same two arrays, the kernel ends with the parts of what the reference ends with. -/
theorem same_result : Cert.algebraic_KernelIdeal_ReferenceIdeal_pre_own_product_reaches_floor_KernelIdeal := fun m g m' g' hp hh =>
  ⟨Ring8.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Ring8.final_y m g c)).trans (Ring8.result hh hp c),
        (h.1 c (0 : Fin 3)).trans (Ring8.final_x m g c), (h.1 c (1 : Fin 3)).trans (Ring8.final_w m g c)⟩)
      (Ring8.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts, Ring8.preK, Ring8.preR,
  frame_kernel, frame_kernelIdeal, fun m ρ _ => frame_kernelIdeal m ρ trivial, frame_reference, fun m ρ _ => frame_reference m ρ trivial,
  trivial, same_result⟩

end Cert.Proof

end
